-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SortedIdeal (m : (ℓ : Loc Cert.SortedIdeal.nD Cert.SortedIdeal.τ Cert.SortedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SortedIdeal [hSortedIdeal : Cert.SortedIdeal.Facts] : Prop :=
  ∀ (m : (ℓ : Loc Cert.SortedIdeal.nD Cert.SortedIdeal.τ Cert.SortedIdeal.sig) → Buf (Elt Ideal) ℓ) (g : Dev Cert.SortedIdeal.nD → PrngReg), Pre_SortedIdeal m →
    θ_run (Cert.SortedIdeal.defs (F := Ideal)) (onTc (τ := Cert.SortedIdeal.τ) (Cert.SortedIdeal.main (F := Ideal))) ⟨m, fun _ => 0, g⟩ (fun r => (∀ c : Dev Cert.SortedIdeal.nD,
      r.2.mem ((c.tc : Thread Cert.SortedIdeal.nD Cert.SortedIdeal.τ).loc Cert.SortedIdeal.main_arg0) = m ((c.tc : Thread Cert.SortedIdeal.nD Cert.SortedIdeal.τ).loc Cert.SortedIdeal.main_arg0)
      ∧ r.2.mem ((c.tc : Thread Cert.SortedIdeal.nD Cert.SortedIdeal.τ).loc Cert.SortedIdeal.main_arg1) = m ((c.tc : Thread Cert.SortedIdeal.nD Cert.SortedIdeal.τ).loc Cert.SortedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1, 1024]⟩ ⟨2, ![2, 1024]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![2048, 512]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v65) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SortedIdeal_on_balanced [hKernelIdeal : Cert.KernelIdeal.Facts] [hSortedIdeal : Cert.SortedIdeal.Facts] [hOn_balanced : Cert.On_balanced.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SortedIdeal.nD Cert.SortedIdeal.τ Cert.SortedIdeal.sig) → Buf (Elt Ideal) ℓ) (g' : Dev Cert.SortedIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2] ![[0], []] c) (m' (((0 : Dev Cert.SortedIdeal.nD).tc : Thread Cert.SortedIdeal.nD Cert.SortedIdeal.τ).loc Cert.SortedIdeal.main_arg0))
      ∧ m ((c.tc : Thread Cert.KernelIdeal.nD Cert.KernelIdeal.τ).loc Cert.KernelIdeal.main_arg1) = Layout.blockN ⟨2, ![1, 1024]⟩ ⟨2, ![2, 1024]⟩ (Layout.meshBlock [2, 2] ![[0], []] c) (m' (((0 : Dev Cert.SortedIdeal.nD).tc : Thread Cert.SortedIdeal.nD Cert.SortedIdeal.τ).loc Cert.SortedIdeal.main_arg1))) →
    ∃ (v0 : Buf (Elt Ideal) (((0 : Dev Cert.SortedIdeal.nD).tc : Thread Cert.SortedIdeal.nD Cert.SortedIdeal.τ).loc Cert.SortedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 512]⟩ : Shape).Idx, (Layout.blockN ⟨2, ![1024, 512]⟩ ⟨2, ![2048, 512]⟩ (Layout.meshBlock [2, 2] ![[0], []] c) ((Cert.On_balanced.fn (F := Ideal) (m' (((0 : Dev Cert.SortedIdeal.nD).tc : Thread Cert.SortedIdeal.nD Cert.SortedIdeal.τ).loc Cert.SortedIdeal.main_arg0)) (m' (((0 : Dev Cert.SortedIdeal.nD).tc : Thread Cert.SortedIdeal.nD Cert.SortedIdeal.τ).loc Cert.SortedIdeal.main_arg1)))) : (⟨2, ![1024, 512]⟩ : Shape).Idx → _) i = 1#1 → r.2.mem ((c.tc : Thread Cert.KernelIdeal.nD Cert.KernelIdeal.τ).loc Cert.KernelIdeal.main_v1) i = (Layout.blockN ⟨2, ![1024, 512]⟩ ⟨2, ![2048, 512]⟩ (Layout.meshBlock [2, 2] ![[0], []] c) v0 : (⟨2, ![1024, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SortedIdeal.defs (F := Ideal)) (onTc (τ := Cert.SortedIdeal.τ) (Cert.SortedIdeal.main (F := Ideal))) ⟨m', fun _ => 0, g'⟩ (fun r =>
          (∀ i : (⟨2, ![2048, 512]⟩ : Shape).Idx, (Cert.On_balanced.fn (F := Ideal) (m' (((0 : Dev Cert.SortedIdeal.nD).tc : Thread Cert.SortedIdeal.nD Cert.SortedIdeal.τ).loc Cert.SortedIdeal.main_arg0)) (m' (((0 : Dev Cert.SortedIdeal.nD).tc : Thread Cert.SortedIdeal.nD Cert.SortedIdeal.τ).loc Cert.SortedIdeal.main_arg1))) i = 1#1 → r.2.mem (((0 : Dev Cert.SortedIdeal.nD).tc : Thread Cert.SortedIdeal.nD Cert.SortedIdeal.τ).loc Cert.SortedIdeal.main_v8) i = v0 i)
          ∧ r.2.mem (((0 : Dev Cert.SortedIdeal.nD).tc : Thread Cert.SortedIdeal.nD Cert.SortedIdeal.τ).loc Cert.SortedIdeal.main_arg0) = m' (((0 : Dev Cert.SortedIdeal.nD).tc : Thread Cert.SortedIdeal.nD Cert.SortedIdeal.τ).loc Cert.SortedIdeal.main_arg0)
          ∧ r.2.mem (((0 : Dev Cert.SortedIdeal.nD).tc : Thread Cert.SortedIdeal.nD Cert.SortedIdeal.τ).loc Cert.SortedIdeal.main_arg1) = m' (((0 : Dev Cert.SortedIdeal.nD).tc : Thread Cert.SortedIdeal.nD Cert.SortedIdeal.τ).loc Cert.SortedIdeal.main_arg1))

def Claim : Prop :=
  ∃ (hKernel : Cert.Kernel.Facts) (hKernelIdeal : Cert.KernelIdeal.Facts) (hReferenceIdeal : Cert.ReferenceIdeal.Facts) (hSortedIdeal : Cert.SortedIdeal.Facts) (hOn_balanced : Cert.On_balanced.Facts),
    quiescent_Kernel (hKernel := hKernel)
    ∧ quiescent_KernelIdeal (hKernelIdeal := hKernelIdeal)
    ∧ quiescent_ReferenceIdeal (hReferenceIdeal := hReferenceIdeal)
    ∧ quiescent_SortedIdeal (hSortedIdeal := hSortedIdeal)
    ∧ preserves_Kernel_KernelIdeal
    ∧ algebraic_KernelIdeal_ReferenceIdeal (hKernelIdeal := hKernelIdeal) (hReferenceIdeal := hReferenceIdeal)
    ∧ algebraic_KernelIdeal_SortedIdeal_on_balanced (hKernelIdeal := hKernelIdeal) (hSortedIdeal := hSortedIdeal) (hOn_balanced := hOn_balanced)
-- ==== On_balanced.lean ====
abbrev S2048x512 : Shape := ⟨2, ![2048, 512]⟩
abbrev S2x1024 : Shape := ⟨2, ![2, 1024]⟩
abbrev S2048 : Shape := ⟨1, ![2048]⟩
abbrev S_ : Shape := ⟨0, ![]⟩

class Facts : Prop where
  shapeCasts_S2x1024_S2048 : S2x1024.ShapeCasts S2048
  bcast_S_S2048 : S_.BroadcastsInDim S2048 (![] : Fin 0 → Fin S2048.rank)
  natLt_1_32 : 1 < 32
  reducesTo_S2048_S_d0 : S2048.ReducesTo [0] S_
  h_S_ : 0 < S_.numel
  bcast_S_S2048x512 : S_.BroadcastsInDim S2048x512 (![] : Fin 0 → Fin S2048x512.rank)

variable [Facts]

def fn {F : FTy → Type} [FloatOps F] (main_arg0 : FVec F S2048x512 .bf16) (main_arg1 : IVec S2x1024 32) : IVec S2048x512 1 :=
  let main_v0 : IVec S2048 32 := shapeCast S2048 main_arg1 shapeCasts_S2x1024_S2048
  let main_c : IVec S_ 32 := constantI S_ 32 0#32
  let main_v1 : IVec S2048 32 := broadcastInDim S2048 ![] bcast_S_S2048 main_c
  let main_v2 : IVec S2048 1 := cmpi .eq main_v0 main_v1
  let main_v3 : IVec S2048 32 := (extui 32 · natLt_1_32) main_v2
  let main_c_0 : IVec S_ 32 := constantI S_ 32 0#32
  let main_v4 : IVec S_ 32 := (fun x v => Host.reduce IntOp.addi x v reducesTo_S2048_S_d0 h_S_) main_v3 main_c_0
  let main_c_1 : IVec S_ 32 := constantI S_ 32 1024#32
  let main_v5 : IVec S_ 1 := cmpi .eq main_v4 main_c_1
  let main_c_2 : IVec S_ 32 := constantI S_ 32 1#32
  let main_v6 : IVec S2048 32 := broadcastInDim S2048 ![] bcast_S_S2048 main_c_2
  let main_v7 : IVec S2048 1 := cmpi .eq main_v0 main_v6
  let main_v8 : IVec S2048 32 := (extui 32 · natLt_1_32) main_v7
  let main_c_3 : IVec S_ 32 := constantI S_ 32 0#32
  let main_v9 : IVec S_ 32 := (fun x v => Host.reduce IntOp.addi x v reducesTo_S2048_S_d0 h_S_) main_v8 main_c_3
  let main_c_4 : IVec S_ 32 := constantI S_ 32 1024#32
  let main_v10 : IVec S_ 1 := cmpi .eq main_v9 main_c_4
  let main_v11 : IVec S_ 1 := andi main_v5 main_v10
  let main_v12 : IVec S2048x512 1 := broadcastInDim S2048x512 ![] bcast_S_S2048x512 main_v11
  main_v12
-- ==== Kernel.lean ====
abbrev S1024x512 : Shape := ⟨2, ![1024, 512]⟩
abbrev S1x1024 : Shape := ⟨2, ![1, 1024]⟩
abbrev S512x512 : Shape := ⟨2, ![512, 512]⟩
abbrev S2 : Shape := ⟨1, ![2]⟩
abbrev S8 : Shape := ⟨1, ![8]⟩
abbrev S_ : Shape := ⟨0, ![]⟩
abbrev S1 : Shape := ⟨1, ![1]⟩
abbrev S64x512 : Shape := ⟨2, ![64, 512]⟩
abbrev S1024x1024 : Shape := ⟨2, ![1024, 1024]⟩
abbrev S1x1 : Shape := ⟨2, ![1, 1]⟩
abbrev S1x1023 : Shape := ⟨2, ![1, 1023]⟩
abbrev S1x2 : Shape := ⟨2, ![1, 2]⟩
abbrev S1x1022 : Shape := ⟨2, ![1, 1022]⟩
abbrev S1x4 : Shape := ⟨2, ![1, 4]⟩
abbrev S1x1020 : Shape := ⟨2, ![1, 1020]⟩
abbrev S1x8 : Shape := ⟨2, ![1, 8]⟩
abbrev S1x1016 : Shape := ⟨2, ![1, 1016]⟩
abbrev S1x16 : Shape := ⟨2, ![1, 16]⟩
abbrev S1x1008 : Shape := ⟨2, ![1, 1008]⟩
abbrev S1x32 : Shape := ⟨2, ![1, 32]⟩
abbrev S1x992 : Shape := ⟨2, ![1, 992]⟩
abbrev S1x64 : Shape := ⟨2, ![1, 64]⟩
abbrev S1x960 : Shape := ⟨2, ![1, 960]⟩
abbrev S1x128 : Shape := ⟨2, ![1, 128]⟩
abbrev S1x896 : Shape := ⟨2, ![1, 896]⟩
abbrev S1x256 : Shape := ⟨2, ![1, 256]⟩
abbrev S1x768 : Shape := ⟨2, ![1, 768]⟩
abbrev S1x512 : Shape := ⟨2, ![1, 512]⟩
abbrev S1024x256 : Shape := ⟨2, ![1024, 256]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .bf16⟩
  | .hbm, ⟨1, _⟩ => ⟨S1x1024, .i32⟩
  | .hbm, ⟨2, _⟩ => ⟨S1024x512, .bf16⟩
  | .local _ .vmem, ⟨0, _⟩ => ⟨S1024x512, .bf16⟩
  | .local _ .vmem, ⟨1, _⟩ => ⟨S1x1024, .i32⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .i32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_15 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_14 : BitVec 32 := 2#32
  let v17 : BitVec 32 := Scalar.muli v6 c2_i32_14
  let v18 : BitVec 32 := Scalar.addi c0_i32_15 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v19 : BitVec 32 := Scalar.muli v5 c1_i32_16
  let v20 : BitVec 32 := Scalar.addi v18 v19
  v20.toNat
def k0_off1 (d0 : Dev nD) (c0_i32_20 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v30 : BitVec 32 := Scalar.muli v5 c512_i32
  let v31 : BitVec 32 := Scalar.addi v30 c0_i32_20
  let c0_i32_28 : BitVec 32 := 0#32
  ![v31.toNat, 0]
def k0_dev4 (d0 : Dev nD) : Nat :=
  let c0_i32_24 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_23 : BitVec 32 := 2#32
  let v32 : BitVec 32 := Scalar.muli v6 c2_i32_23
  let v33 : BitVec 32 := Scalar.addi c0_i32_24 v32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v34 : BitVec 32 := Scalar.muli v5 c1_i32_25
  let v35 : BitVec 32 := Scalar.addi v33 v34
  v35.toNat
def k0_dev5 (d0 : Dev nD) : Nat :=
  let c0_i32_32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_31 : BitVec 32 := 2#32
  let v43 : BitVec 32 := Scalar.muli v6 c2_i32_31
  let v44 : BitVec 32 := Scalar.addi c0_i32_32 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_33 : BitVec 32 := 1#32
  let v45 : BitVec 32 := Scalar.muli v5 c1_i32_33
  let v46 : BitVec 32 := Scalar.addi v44 v45
  v46.toNat
def k0_dev6 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v54 : BitVec 32 := Scalar.muli v6 c2_i32_39
  let v55 : BitVec 32 := Scalar.addi c0_i32_40 v54
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v56 : BitVec 32 := Scalar.muli v5 c1_i32_41
  let v57 : BitVec 32 := Scalar.addi v55 v56
  v57.toNat
def k0_dev7 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v65 : BitVec 32 := Scalar.muli v6 c2_i32_46
  let v66 : BitVec 32 := Scalar.addi c0_i32_47 v65
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v67 : BitVec 32 := Scalar.muli v5 c1_i32_48
  let v68 : BitVec 32 := Scalar.addi v66 v67
  v68.toNat
def k0_dev8 (d0 : Dev nD) : Nat :=
  let c0_i32_54 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_53 : BitVec 32 := 2#32
  let v76 : BitVec 32 := Scalar.muli v6 c2_i32_53
  let v77 : BitVec 32 := Scalar.addi c0_i32_54 v76
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_55 : BitVec 32 := 1#32
  let v78 : BitVec 32 := Scalar.muli v5 c1_i32_55
  let v79 : BitVec 32 := Scalar.addi v77 v78
  v79.toNat
def k0_dev9 (d0 : Dev nD) : Nat :=
  let c0_i32_61 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_60 : BitVec 32 := 2#32
  let v87 : BitVec 32 := Scalar.muli v6 c2_i32_60
  let v88 : BitVec 32 := Scalar.addi c0_i32_61 v87
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v89 : BitVec 32 := Scalar.muli v5 c1_i32_62
  let v90 : BitVec 32 := Scalar.addi v88 v89
  v90.toNat
def k0_dev10 (d0 : Dev nD) : Nat :=
  let c0_i32_68 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_67 : BitVec 32 := 2#32
  let v98 : BitVec 32 := Scalar.muli v6 c2_i32_67
  let v99 : BitVec 32 := Scalar.addi c0_i32_68 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v100 : BitVec 32 := Scalar.muli v5 c1_i32_69
  let v101 : BitVec 32 := Scalar.addi v99 v100
  v101.toNat
def k0_dev11 (d0 : Dev nD) : Nat :=
  let c0_i32_75 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_74 : BitVec 32 := 2#32
  let v109 : BitVec 32 := Scalar.muli v6 c2_i32_74
  let v110 : BitVec 32 := Scalar.addi c0_i32_75 v109
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v111 : BitVec 32 := Scalar.muli v5 c1_i32_76
  let v112 : BitVec 32 := Scalar.addi v110 v111
  v112.toNat
def k0_dev12 (d0 : Dev nD) : Nat :=
  let c0_i32_131 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_130 : BitVec 32 := 2#32
  let v252 : BitVec 32 := Scalar.muli v2 c2_i32_130
  let v253 : BitVec 32 := Scalar.addi c0_i32_131 v252
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_132 : BitVec 32 := 1#32
  let v254 : BitVec 32 := Scalar.muli v7 c1_i32_132
  let v255 : BitVec 32 := Scalar.addi v253 v254
  v255.toNat
def k0_dev13 (d0 : Dev nD) : Nat :=
  let c0_i32_148 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_147 : BitVec 32 := 2#32
  let v277 : BitVec 32 := Scalar.muli v2 c2_i32_147
  let v278 : BitVec 32 := Scalar.addi c0_i32_148 v277
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_149 : BitVec 32 := 1#32
  let v279 : BitVec 32 := Scalar.muli v7 c1_i32_149
  let v280 : BitVec 32 := Scalar.addi v278 v279
  v280.toNat
def k0_dev14 (d0 : Dev nD) : Nat :=
  let c0_i32_166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_165 : BitVec 32 := 2#32
  let v304 : BitVec 32 := Scalar.muli v2 c2_i32_165
  let v305 : BitVec 32 := Scalar.addi c0_i32_166 v304
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_167 : BitVec 32 := 1#32
  let v306 : BitVec 32 := Scalar.muli v7 c1_i32_167
  let v307 : BitVec 32 := Scalar.addi v305 v306
  v307.toNat
def k0_dev15 (d0 : Dev nD) : Nat :=
  let c0_i32_183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_182 : BitVec 32 := 2#32
  let v322 : BitVec 32 := Scalar.muli v2 c2_i32_182
  let v323 : BitVec 32 := Scalar.addi c0_i32_183 v322
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_184 : BitVec 32 := 1#32
  let v324 : BitVec 32 := Scalar.muli v7 c1_i32_184
  let v325 : BitVec 32 := Scalar.addi v323 v324
  v325.toNat
def k0_dev16 (d0 : Dev nD) : Nat :=
  let c0_i32_202 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_201 : BitVec 32 := 2#32
  let v342 : BitVec 32 := Scalar.muli v2 c2_i32_201
  let v343 : BitVec 32 := Scalar.addi c0_i32_202 v342
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_203 : BitVec 32 := 1#32
  let v344 : BitVec 32 := Scalar.muli v7 c1_i32_203
  let v345 : BitVec 32 := Scalar.addi v343 v344
  v345.toNat
def k0_dev17 (d0 : Dev nD) : Nat :=
  let c0_i32_219 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_218 : BitVec 32 := 2#32
  let v360 : BitVec 32 := Scalar.muli v2 c2_i32_218
  let v361 : BitVec 32 := Scalar.addi c0_i32_219 v360
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_220 : BitVec 32 := 1#32
  let v362 : BitVec 32 := Scalar.muli v7 c1_i32_220
  let v363 : BitVec 32 := Scalar.addi v361 v362
  v363.toNat
def k0_dev18 (d0 : Dev nD) : Nat :=
  let c0_i32_236 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_235 : BitVec 32 := 2#32
  let v378 : BitVec 32 := Scalar.muli v2 c2_i32_235
  let v379 : BitVec 32 := Scalar.addi c0_i32_236 v378
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_237 : BitVec 32 := 1#32
  let v380 : BitVec 32 := Scalar.muli v7 c1_i32_237
  let v381 : BitVec 32 := Scalar.addi v379 v380
  v381.toNat
def k0_dev19 (d0 : Dev nD) : Nat :=
  let c0_i32_253 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_252 : BitVec 32 := 2#32
  let v396 : BitVec 32 := Scalar.muli v2 c2_i32_252
  let v397 : BitVec 32 := Scalar.addi c0_i32_253 v396
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_254 : BitVec 32 := 1#32
  let v398 : BitVec 32 := Scalar.muli v7 c1_i32_254
  let v399 : BitVec 32 := Scalar.addi v397 v398
  v399.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S2x1024 : Shape := ⟨2, ![2, 1024]⟩
abbrev S2048 : Shape := ⟨1, ![2048]⟩
abbrev S1024 : Shape := ⟨1, ![1024]⟩
abbrev S_ : Shape := ⟨0, ![]⟩
abbrev S1024x1 : Shape := ⟨2, ![1024, 1]⟩
abbrev S1024x512 : Shape := ⟨2, ![1024, 512]⟩

abbrev nBuf : Space → Nat
  | .hbm => 92
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2x1024, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S2048, .i32⟩
  | .hbm, ⟨6, _⟩ => ⟨S1024, .i32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S_, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S1024x1, .i32⟩
  | .hbm, ⟨41, _⟩ => ⟨S1024x512, .bf16⟩
  | .hbm, ⟨42, _⟩ => ⟨S1024, .i32⟩
  | .hbm, ⟨43, _⟩ => ⟨S1024, .i1⟩
  | .hbm, ⟨44, _⟩ => ⟨S1024x1, .i1⟩
  | .hbm, ⟨45, _⟩ => ⟨S_, .bf16⟩
  | .hbm, ⟨46, _⟩ => ⟨S1024x512, .bf16⟩
  | .hbm, ⟨47, _⟩ => ⟨S1024x512, .i1⟩
  | .hbm, ⟨48, _⟩ => ⟨S1024x512, .bf16⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S2048, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S2048, .i32⟩
  | .hbm, ⟨59, _⟩ => ⟨S_, .i32⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i1⟩
  | .hbm, ⟨69, _⟩ => ⟨S_, .i32⟩
  | .hbm, ⟨70, _⟩ => ⟨S1024, .i32⟩
  | .hbm, ⟨71, _⟩ => ⟨S1024, .i32⟩
  | .hbm, ⟨72, _⟩ => ⟨S1024, .i32⟩
  | .hbm, ⟨73, _⟩ => ⟨S1024x1, .i32⟩
  | .hbm, ⟨74, _⟩ => ⟨S1024, .i32⟩
  | .hbm, ⟨75, _⟩ => ⟨S_, .i32⟩
  | .hbm, ⟨76, _⟩ => ⟨S1024, .i32⟩
  | .hbm, ⟨77, _⟩ => ⟨S1024, .i1⟩
  | .hbm, ⟨78, _⟩ => ⟨S_, .i32⟩
  | .hbm, ⟨79, _⟩ => ⟨S1024, .i32⟩
  | .hbm, ⟨80, _⟩ => ⟨S1024, .i32⟩
  | .hbm, ⟨81, _⟩ => ⟨S1024, .i32⟩
  | .hbm, ⟨82, _⟩ => ⟨S1024x1, .i32⟩
  | .hbm, ⟨83, _⟩ => ⟨S1024x512, .bf16⟩
  | .hbm, ⟨84, _⟩ => ⟨S1024, .i32⟩
  | .hbm, ⟨85, _⟩ => ⟨S1024, .i1⟩
  | .hbm, ⟨86, _⟩ => ⟨S1024x1, .i1⟩
  | .hbm, ⟨87, _⟩ => ⟨S_, .bf16⟩
  | .hbm, ⟨88, _⟩ => ⟨S1024x512, .bf16⟩
  | .hbm, ⟨89, _⟩ => ⟨S1024x512, .i1⟩
  | .hbm, ⟨90, _⟩ => ⟨S1024x512, .bf16⟩
  | .hbm, ⟨91, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_call1_v0 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_12 : Ref sig .tc := ⟨.hbm, 63, rfl⟩
abbrev main_v44 : Ref sig .tc := ⟨.hbm, 64, rfl⟩
abbrev main_v45 : Ref sig .tc := ⟨.hbm, 65, rfl⟩
abbrev main_c_13 : Ref sig .tc := ⟨.hbm, 66, rfl⟩
abbrev main_v46 : Ref sig .tc := ⟨.hbm, 67, rfl⟩
abbrev main_v47 : Ref sig .tc := ⟨.hbm, 68, rfl⟩
abbrev main_c_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_15 : Ref sig .tc := ⟨.hbm, 75, rfl⟩
abbrev main_v53 : Ref sig .tc := ⟨.hbm, 76, rfl⟩
abbrev main_v54 : Ref sig .tc := ⟨.hbm, 77, rfl⟩
abbrev main_c_16 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_call2_v0 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== SortedIdeal.lean ====
abbrev S2048x512 : Shape := ⟨2, ![2048, 512]⟩
abbrev S2x1024 : Shape := ⟨2, ![2, 1024]⟩
abbrev S2048 : Shape := ⟨1, ![2048]⟩
abbrev S_ : Shape := ⟨0, ![]⟩
abbrev S2048x1 : Shape := ⟨2, ![2048, 1]⟩

abbrev nBuf : Space → Nat
  | .hbm => 15
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2x1024, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S2048x1, .i32⟩
  | .hbm, ⟨14, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Cells.lean ====
/-
# The exchange's cells, buffers and schedule

Four devices stand in a 2 × 2 mesh; device `c` has an x coordinate `c / 2` and a y coordinate `c % 2`. In the kernel a
device hands its destination words and half of its rows to the device across the x axis, eight chunks of 64 rows, and
passes every chunk it receives on to the device across the y axis. Each transfer raises one semaphore on the sender and
one on the receiver; an opening handshake on the barrier semaphore hands the landing buffers over. This file names the
cells, the buffers' pieces and contents, what each raise hands over, what each device owes and the order of the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all counters zero. -/
def s₀ : MemSt nD τ sig (Elt F) := ⟨m, fun _ => 0, ρ⟩

/-! ## The mesh -/

set_option backward.proofsInPublic true in
/-- The device across the x axis. -/
def xp (c : Dev nD) : Dev nD := ⟨(c.val + 2) % 4, Nat.mod_lt _ (by decide)⟩
set_option backward.proofsInPublic true in
/-- The device across the y axis. -/
def yp (c : Dev nD) : Dev nD := ⟨c.val + 1 - 2 * (c.val % 2), by have : c.val < 4 := c.isLt; show _ < 4; omega⟩

theorem xp_xp (c : Dev nD) : xp (xp c) = c := by revert c; decide
theorem yp_yp (c : Dev nD) : yp (yp c) = c := by revert c; decide

/-- `false` names the x neighbour, `true` the y neighbour. -/
def nb (b : Bool) (c : Dev nD) : Dev nD := if b then yp c else xp c
theorem nb_nb (b : Bool) (c : Dev nD) : nb b (nb b c) = c := by cases b; exacts [xp_xp c, yp_yp c]
/-- Crossing an axis, as a permutation of the devices. -/
def cross (b : Bool) : Dev nD ≃ Dev nD := ⟨nb b, nb b, nb_nb b, nb_nb b⟩

/-! ## The cells -/

/-- The cells of a device: the barrier's, the send and the receive cell of the destination words, and four banks of
    eight chunk cells (0: x sends, 1: x receives, 2: y sends, 3: y receives). -/
abbrev CI : Type := Fin 3 ⊕ Fin 4 × Fin 8

abbrev barS : Sem sig := (SemArray.scalar (sig.barrier 0 rfl) : Sems sig S_).sem

abbrev bar : CI := .inl 0
abbrev dS : CI := .inl 1
abbrev dR : CI := .inl 2
abbrev xS (k : Fin 8) : CI := .inr (0, k)
abbrev xR (k : Fin 8) : CI := .inr (1, k)
abbrev yS (k : Fin 8) : CI := .inr (2, k)
abbrev yR (k : Fin 8) : CI := .inr (3, k)

set_option backward.proofsInPublic true in
/-- The DMA semaphore of a chunk cell. -/
def chunkSem (a : Fin 4) (k : Fin 8) : DmaSem sig := (⟨5 + 8 * a.val + k.val, by have := a.isLt; have := k.isLt; omega⟩ : Fin 37)

/-- The semaphore of a cell. -/
def csem : CI → SemLoc sig
  | .inl 0 => .reg barS
  | .inl 1 => .dma (3 : Fin 37)
  | .inl 2 => .dma (4 : Fin 37)
  | .inr (a, k) => .dma (chunkSem a k)

abbrev kcell (p : Dev nD × CI) : GSem nD τ sig := ((p.1 : Thread nD τ), csem p.2)

set_option backward.proofsInPublic true in
/-- Which chunk cell the DMA semaphore number `n` belongs to, if any; 3 and 4 are the destination words'. -/
def ixOf (n : ℕ) : Option CI :=
  if n = 3 then some dS else if n = 4 then some dR
  else if h : 5 ≤ n ∧ n < 37 then
    some (.inr (⟨(n - 5) / 8, by omega⟩, ⟨(n - 5) % 8, Nat.mod_lt _ (by decide)⟩))
  else none

/-- The cell a semaphore belongs to: the inverse of `csem`. -/
def cix : SemLoc sig → Option CI
  | .reg _ => some bar
  | .dma s => ixOf (Fin.val (n := 37) s)

theorem cix_csem (i : CI) : cix (csem i) = some i := by revert i; decide

theorem csem_inj : Function.Injective csem := fun i j h => Option.some.inj (by rw [← cix_csem i, ← cix_csem j, h])

theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]

/-! ## The buffers and their chunks -/

abbrev xA : Memref sig .tc .vmem S1024x512 .bf16 := Memref.whole cc0_stg0_0
abbrev dA : Memref sig .tc .vmem S1x1024 .i32 := Memref.whole cc0_stg1_0
abbrev oA : Memref sig .tc .vmem S1024x512 .bf16 := Memref.whole cc0_stg2_0
abbrev sA : Memref sig .tc .vmem S1024x512 .bf16 := Memref.whole cc0_scratch0
abbrev xB : Memref sig .tc .vmem S512x512 .bf16 := Memref.whole cc0_scratch1
abbrev yB : Memref sig .tc .vmem S512x512 .bf16 := Memref.whole cc0_scratch2
abbrev dB : Memref sig .tc .vmem S1x1024 .i32 := Memref.whole cc0_scratch3

theorem chunk_fits (k : Fin 8) : ∀ a, (![64 * k.val, 0] : Fin 2 → ℕ) a + S64x512.size a ≤ S512x512.size a := by
  revert k; decide

/-- Rows `64 k` to `64 k + 63` of a landing buffer. -/
abbrev chR (k : Fin 8) : Rect S512x512 := Rect.unit (s := S512x512) ![64 * k.val, 0] S64x512.size (chunk_fits k)
/-- The rows of its send buffer that device `c` sends as chunk `k`. -/
abbrev chS (c : Dev nD) (k : Fin 8) : Rect S1024x512 :=
  Rect.unit (s := S1024x512) (k0_off1 c (BitVec.ofNat 32 (64 * k.val))) S64x512.size (k0_off1_inb c k)

abbrev sC (c : Dev nD) (k : Fin 8) : Memref sig .tc .vmem S64x512 .bf16 := sA.slice (chS c k) (fun _ => rfl)
abbrev xC (k : Fin 8) : Memref sig .tc .vmem S64x512 .bf16 := xB.slice (chR k) (fun _ => rfl)
abbrev yC (k : Fin 8) : Memref sig .tc .vmem S64x512 .bf16 := yB.slice (chR k) (fun _ => rfl)

/-- The units a transfer of the destination words and of one chunk raise. -/
abbrev ND : ℕ := dB.view.dmaCredit
abbrev NX : ℕ := (xC 0).view.dmaCredit
theorem ND_pos : 0 < ND := View.dmaCredit_pos _ (by decide)
theorem NX_pos : 0 < NX := View.dmaCredit_pos _ (by decide)

/-- The units one raise of a cell adds. -/
def amt : CI → ℕ
  | .inl 0 => 1
  | .inl 1 => ND
  | .inl 2 => ND
  | .inr _ => NX
theorem amt_pos (i : CI) : 0 < amt i := by
  rcases i with i | i
  · fin_cases i; exacts [Nat.one_pos, ND_pos, ND_pos]
  · exact NX_pos

/-! ## Contents -/

/-- What a device's staged blocks hold: its rows and its destination words. -/
def xstg (c : Dev nD) : (cc0_stg0_0 : Ref sig .tc).ty.Contents (Elt F) :=
  (win0_0.blk (0 : Fin 1)).view.read (Elt F) ((s₀ m ρ).mem ((c : Thread nD τ).loc main_arg0))
def dstg (c : Dev nD) : (cc0_stg1_0 : Ref sig .tc).ty.Contents (Elt F) :=
  (win0_1.blk (0 : Fin 1)).view.read (Elt F) ((s₀ m ρ).mem ((c : Thread nD τ).loc main_arg1))

/-- What a device stores into its send buffer. -/
def sent (c : Dev nD) : (cc0_scratch0 : Ref sig .tc).ty.Contents (Elt F) := k0_pay1 (xstg m ρ c)

set_option backward.proofsInPublic true in
/-- Row `i` of the half of the rows that device `c` sends: row `512 (c % 2) + i` of its block. -/
def srcRow (c : Dev nD) (i : S512x512.Idx) : S1024x512.Idx :=
  fun a => match a with
    | 0 => ⟨512 * (c.val % 2) + (i 0).val, by have h : (i 0).val < 512 := (i 0).isLt; show _ < 1024; omega⟩
    | 1 => ⟨(i 1).val, (i 1).isLt⟩

/-- What the first landing buffer of `c` comes to hold: the half that the device across the x axis sends. -/
def XB (c : Dev nD) : (cc0_scratch1 : Ref sig .tc).ty.Contents (Elt F) := fun i => sent m ρ (xp c) (srcRow (xp c) i)
/-- What the second comes to hold: the first of the device across the y axis. -/
def YB (c : Dev nD) : (cc0_scratch2 : Ref sig .tc).ty.Contents (Elt F) := XB m ρ (yp c)

abbrev LSh : PosShare TreeShare := fullShare.left
abbrev RSh : PosShare TreeShare := fullShare.right

/-! ## What a raise hands over -/

/-- What paying duty `d` of cell `i` of device `c` hands to it. -/
def pay (c : Dev nD) : CI → Bool → sProp 𝕄
  | .inl 0, false => iprop((∃ f, ((xp c : Thread nD τ).loc cc0_scratch3) ↦{fullShare} f) ∗ ∃ f, ((xp c : Thread nD τ).loc cc0_scratch1) ↦{fullShare} f)
  | .inl 0, true => iprop(∃ f, ((yp c : Thread nD τ).loc cc0_scratch2) ↦{fullShare} f)
  | .inl 1, _ => ((c : Thread nD τ).loc cc0_stg1_0) ↦{fullShare} dstg m ρ c
  | .inl 2, _ => ((c : Thread nD τ).loc cc0_scratch3) ↦{fullShare} (dstg m ρ (xp c) : (cc0_scratch3 : Ref sig .tc).ty.Contents (Elt F))
  | .inr (0, k), _ => ((c : Thread nD τ).loc cc0_scratch0) ↦[(chS c k).set]{LSh} sent m ρ c
  | .inr (1, k), _ => ((c : Thread nD τ).loc cc0_scratch1) ↦[(chR k).set]{fullShare} XB m ρ c
  | .inr (2, k), _ => ((c : Thread nD τ).loc cc0_scratch1) ↦[(chR k).set]{LSh} XB m ρ c
  | .inr (3, k), _ => ((c : Thread nD τ).loc cc0_scratch2) ↦[(chR k).set]{fullShare} YB m ρ c

instance pay_storable (c : Dev nD) (i : CI) (d : Bool) : BI.Storable (upEmb : UEmb _ 𝕄) (pay (F := F) m ρ c i d) := by
  rcases i with i | ⟨a, k⟩
  · fin_cases i <;> cases d <;> (simp only [pay]; infer_instance)
  · fin_cases a <;> (simp only [pay]; infer_instance)

/-- The duties of a cell's only round: the barrier's two, any other cell's one. -/
def dut : Option CI → Finset Bool
  | some (.inl 0) => Finset.univ
  | some _ => {false}
  | none => ∅

/-- The schedule: one round, the cells' duties, units and payloads. -/
def Rd : Rounds.Schedule (GSem nD τ sig) Bool 𝕄 where
  duties g r := if r = 0 ∧ g.1.2 = .tc then dut (cix g.2) else ∅
  unitless _ := False
  amount g _ _ := (cix g.2).elim 1 amt
  payload g _ d := (cix g.2).elim iprop(emp) fun i => pay m ρ g.1.1 i d
  amount_pos g _ _ _ := by
    cases h : cix g.2 with
    | none => exact Nat.one_pos
    | some i => exact amt_pos i

instance Rd_storable (g : GSem nD τ sig) (r : ℕ) (d : Bool) :
    BI.Storable (upEmb : UEmb _ 𝕄) ((Rd (F := F) m ρ).payload g r d) := by
  show BI.Storable upEmb ((cix g.2).elim iprop(emp) fun i => pay m ρ g.1.1 i d)
  cases cix g.2 with
  | none => show BI.Storable upEmb iprop(emp); infer_instance
  | some i => show BI.Storable upEmb (pay m ρ g.1.1 i d); infer_instance

section Sched
variable (c : Dev nD) (i : CI)

theorem duties_cell : (Rd (F := F) m ρ).duties (kcell (c, i)) 0 = dut (some i) := by
  dsimp only [Rd]; rw [if_pos ⟨rfl, rfl⟩, cix_csem]
theorem duties_later (g : GSem nD τ sig) : ∀ r, 1 ≤ r → (Rd (F := F) m ρ).duties g r = ∅ :=
  fun r hr => by dsimp only [Rd]; exact if_neg fun h => by omega
theorem amount_cell (d : Bool) : (Rd (F := F) m ρ).amount (kcell (c, i)) 0 d = amt i := by
  dsimp only [Rd]; rw [cix_csem]; rfl
theorem payload_cell (d : Bool) : (Rd (F := F) m ρ).payload (kcell (c, i)) 0 d = pay m ρ c i d := by
  dsimp only [Rd]; rw [cix_csem]; rfl

/-- Every cell but the barrier's has one duty, -/
theorem dut_one (hi : i ≠ bar) : dut (some i) = {false} := by revert hi; revert i; decide
/-- so its round expects one raise, -/
theorem expect_cell (hi : i ≠ bar) : (Rd (F := F) m ρ).expect (kcell (c, i)) 0 = amt i := by
  unfold Schedule.expect Schedule.amountOf; rw [duties_cell, dut_one i hi, Finset.sum_singleton, amount_cell]
/-- and hands over one payload. -/
theorem rest_cell (hi : i ≠ bar) :
    bigSep ((Rd (F := F) m ρ).duties (kcell (c, i)) 0 \ ∅) (fun d => (Rd (F := F) m ρ).payload (kcell (c, i)) 0 d) = pay m ρ c i false := by
  rw [Finset.sdiff_empty, duties_cell, dut_one i hi, bigSep_singleton, payload_cell]

theorem expect_bar : (Rd (F := F) m ρ).expect (kcell (c, bar)) 0 = 2 := by
  unfold Schedule.expect Schedule.amountOf
  rw [duties_cell, Finset.sum_congr rfl fun d _ => amount_cell m ρ c bar d]; rfl
theorem rest_bar :
    bigSep ((Rd (F := F) m ρ).duties (kcell (c, bar)) 0 \ ∅) (fun d => (Rd (F := F) m ρ).payload (kcell (c, bar)) 0 d)
      = iprop(pay m ρ c bar false ∗ pay m ρ c bar true) := by
  rw [Finset.sdiff_empty, duties_cell, show dut (some bar) = Finset.univ from rfl,
    bigSep_univ_eq_bigSepL [false, true] (by decide) (by decide), bigSepL_cons_cons, bigSepL_singleton, payload_cell, payload_cell]
  rfl

end Sched

/-! ## What a device owes, and the order of the waits -/

/-- The raises a device makes of other devices' cells, in program order: the neighbour's side and the cell. -/
def dues : List (Bool × CI) :=
  [(false, bar), (true, bar), (false, dR),
   (false, xR 0), (false, xR 1), (false, xR 2), (false, xR 3), (false, xR 4), (false, xR 5), (false, xR 6), (false, xR 7),
   (true, yR 0), (true, yR 1), (true, yR 2), (true, yR 3), (true, yR 4), (true, yR 5), (true, yR 6), (true, yR 7)]

/-- What device `c` owes when the raises of the list are left. -/
def tal (c : Dev nD) : List (Bool × CI) → CellTallies nD τ sig Unit
  | [] => 0
  | e :: l => tal c l + tallyAt (kcell (nb e.1 c, e.2)) () (amt e.2)

/-- What device `c` owes after `n` of its raises. -/
def debt (c : Dev nD) (n : ℕ) : CellTallies nD τ sig Unit := tal c (dues.drop n)

/-- The next raise pays the head of the list. -/
theorem debt_succ (c : Dev nD) {n : ℕ} {e : Bool × CI} (h : dues[n]? = some e) :
    debt c n = debt c (n + 1) + tallyAt (kcell (nb e.1 c, e.2)) () (amt e.2) := by
  obtain ⟨hn, he⟩ := List.getElem?_eq_some_iff.mp h
  unfold debt; rw [List.drop_eq_getElem_cons hn, he]; rfl

/-- The order: the sends' own cells first, then the barrier, the x transfers, the y transfers. -/
def rank : CI → ℕ
  | .inl 0 => 1
  | .inl 1 => 0
  | .inl 2 => 2
  | .inr (0, _) => 0
  | .inr (1, _) => 2
  | .inr (2, _) => 0
  | .inr (3, _) => 3

def L (g : GSem nD τ sig) : Finset Unit := if g.1.2 = .tc then {()} else ∅
def lv (g : GSem nD τ sig) (_ : Unit) : ℕ := (cix g.2).elim 0 rank

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CI) (u : Unit) : lv (kcell (c, i)) u = rank i := by dsimp only [lv]; rw [cix_csem]; rfl

/-- A cell with something owed to it is one of the list's. -/
theorem tal_pos {c : Dev nD} {l : List (Bool × CI)} {g : GSem nD τ sig} {u : Unit} (h : 0 < tal c l g u) :
    ∃ e ∈ l, g = kcell (nb e.1 c, e.2) := by
  induction l with
  | nil => exact absurd h (Nat.lt_irrefl 0)
  | cons e l ih =>
    by_cases he : g = kcell (nb e.1 c, e.2)
    · exact ⟨e, List.mem_cons_self, he⟩
    · have h' : 0 < tal c l g u := by
        unfold tal at h
        rw [Pi.add_apply, Finsupp.add_apply, tallyAt_apply, if_neg (fun q => he q.1), Nat.add_zero] at h
        exact h
      obtain ⟨e', hm, hg⟩ := ih h'
      exact ⟨e', List.mem_cons_of_mem _ hm, hg⟩

/-- A semaphore ranked below everything a device still owes may be waited for. -/
theorem mayWait_below (c : Dev nD) (sm : SemLoc sig) (b n : ℕ) (hsm : lv ((c : Thread nD τ), sm) () = b)
    (hl : (dues.drop n).all (fun e => decide (b < rank e.2)) = true) :
    (levAts L lv : sProp 𝕄) ⊢ MayWait (c : Thread nD τ) sm () (debt c n) :=
  MayOwe.of_cut (L := L) (lev := lv) b (fun p hp => by rw [Finset.mem_singleton.mp hp, L_tc]; exact Finset.mem_singleton_self _)
    (fun g u hg => by
      obtain ⟨e, _, rfl⟩ := tal_pos hg
      exact Finset.mem_singleton_self _)
    (fun p hp => by rw [Finset.mem_singleton.mp hp]; exact le_of_eq hsm)
    (fun g u hg => by
      obtain ⟨e, he, rfl⟩ := tal_pos hg
      have hb := List.all_eq_true.mp hl e he
      rw [lv_cell]; exact of_decide_eq_true hb)

/-- All of the exchange's invariants, under the names `K`, and that each cell stands at its first round. -/
def records (K : Dev nD × CI → ℕ) : sProp 𝕄 :=
  iprop((bigSep Finset.univ fun p : Dev nD × CI => cellInv ER (Rd m ρ) (K p) (kcell p))
    ∗ bigSep Finset.univ fun p : Dev nD × CI => reached ER (kcell p) 0)

instance records_persistent (K : Dev nD × CI → ℕ) : BI.Persistent (records m ρ K) := by unfold records; infer_instance

theorem records_inv (K : Dev nD × CI → ℕ) (p : Dev nD × CI) : records m ρ K ⊢ cellInv ER (Rd m ρ) (K p) (kcell p) :=
  (show records m ρ K ⊢ (bigSep Finset.univ fun p : Dev nD × CI => cellInv ER (Rd m ρ) (K p) (kcell p)) by
    unfold records; iintro ⟨H, -⟩; iexact H).trans (bigSep_elim (Finset.mem_univ p))
theorem records_reached (K : Dev nD × CI → ℕ) (p : Dev nD × CI) : records m ρ K ⊢ reached ER (kcell p) 0 :=
  (show records m ρ K ⊢ (bigSep Finset.univ fun p : Dev nD × CI => reached ER (kcell p) 0) by
    unfold records; iintro ⟨-, H⟩; iexact H).trans (bigSep_elim (Finset.mem_univ p))

end Cert.Exchange
-- ==== Proof.Steps.lean ====
/-
# The exchange's steps

How the chunks make up the buffers, what a landed chunk holds, and one rule for each kind of step of the kernel: a wait
on a DMA cell, which closes the cell, and a transfer to a neighbour.
-/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chunks of rows -/

/-- Chunk `k` of a landing buffer is its rows `64 k` to `64 k + 63`. -/
theorem mem_chR (k : Fin 8) (i : S512x512.Idx) : i ∈ (chR k).set ↔ 64 * k.val ≤ (i 0).val ∧ (i 0).val < 64 * k.val + 64 := by
  rw [Rect.mem_set_unit]
  constructor
  · intro h; exact h 0
  · intro h a
    fin_cases a
    · exact h
    · exact ⟨Nat.zero_le _, by have := (i 1).isLt; simpa using this⟩

/-- The chunk that device `c` sends as chunk `k` is its rows from `512 (c % 2) + 64 k`. -/
theorem mem_chS (c : Dev nD) (k : Fin 8) (i : S1024x512.Idx) :
    i ∈ (chS c k).set ↔ 512 * (c.val % 2) + 64 * k.val ≤ (i 0).val ∧ (i 0).val < 512 * (c.val % 2) + 64 * k.val + 64 := by
  rw [Rect.mem_set_unit, k0_off1_eq c k]
  constructor
  · intro h; exact h 0
  · intro h a
    fin_cases a
    · exact h
    · exact ⟨Nat.zero_le _, by have := (i 1).isLt; simpa using this⟩

theorem chR_disjoint (k k' : Fin 8) (h : k ≠ k') : Disjoint (chR k).set (chR k').set :=
  Finset.disjoint_left.mpr fun i hi hi' => h (Fin.ext (by have := (mem_chR k i).mp hi; have := (mem_chR k' i).mp hi'; omega))
theorem chS_disjoint (c : Dev nD) (k k' : Fin 8) (h : k ≠ k') : Disjoint (chS c k).set (chS c k').set :=
  Finset.disjoint_left.mpr fun i hi hi' => h (Fin.ext (by have := (mem_chS c k i).mp hi; have := (mem_chS c k' i).mp hi'; omega))

/-- The eight chunks are the whole landing buffer. -/
theorem chR_cover : (Finset.univ : Finset (Fin 8)).biUnion (fun k => (chR k).set) = Finset.univ := by
  ext i
  have hi : (i 0).val < 512 := (i 0).isLt
  rw [Finset.mem_biUnion]
  exact ⟨fun _ => Finset.mem_univ _, fun _ => ⟨⟨(i 0).val / 64, by omega⟩, Finset.mem_univ _, (mem_chR _ i).mpr (by show 64 * ((i 0).val / 64) ≤ _ ∧ _ < 64 * ((i 0).val / 64) + 64; omega)⟩⟩

/-- All the rows a device sends. -/
def sentRows (c : Dev nD) : Finset S1024x512.Idx := (Finset.univ : Finset (Fin 8)).biUnion fun k => (chS c k).set

/-- A landing buffer is its eight chunks. -/
theorem xbuf_chunks (c : Dev nD) (q : PosShare TreeShare) (f : (cc0_scratch1 : Ref sig .tc).ty.Contents (Elt F)) :
    (((c : Thread nD τ).loc cc0_scratch1) ↦{q} f : sProp 𝕄)
      = bigSep Finset.univ fun k : Fin 8 => ((c : Thread nD τ).loc cc0_scratch1) ↦[(chR k).set]{q} f := by
  rw [← pointsTo_biUnion (ℓ := (c : Thread nD τ).loc cc0_scratch1) Finset.univ (fun k : Fin 8 => (chR k).set)
    fun k _ k' _ h => chR_disjoint k k' h, chR_cover]
theorem ybuf_chunks (c : Dev nD) (q : PosShare TreeShare) (f : (cc0_scratch2 : Ref sig .tc).ty.Contents (Elt F)) :
    (((c : Thread nD τ).loc cc0_scratch2) ↦{q} f : sProp 𝕄)
      = bigSep Finset.univ fun k : Fin 8 => ((c : Thread nD τ).loc cc0_scratch2) ↦[(chR k).set]{q} f := by
  rw [← pointsTo_biUnion (ℓ := (c : Thread nD τ).loc cc0_scratch2) Finset.univ (fun k : Fin 8 => (chR k).set)
    fun k _ k' _ h => chR_disjoint k k' h, chR_cover]
/-- A send buffer is the eight chunks sent and the rows not sent. -/
theorem sbuf_chunks (c : Dev nD) (q : PosShare TreeShare) (f : (cc0_scratch0 : Ref sig .tc).ty.Contents (Elt F)) :
    (((c : Thread nD τ).loc cc0_scratch0) ↦{q} f : sProp 𝕄)
      ⊣⊢ iprop((bigSep Finset.univ fun k : Fin 8 => ((c : Thread nD τ).loc cc0_scratch0) ↦[(chS c k).set]{q} f)
        ∗ ((c : Thread nD τ).loc cc0_scratch0) ↦[Finset.univ \ sentRows c]{q} f) := by
  rw [← pointsTo_biUnion (ℓ := (c : Thread nD τ).loc cc0_scratch0) Finset.univ (fun k : Fin 8 => (chS c k).set)
    fun k _ k' _ h => chS_disjoint c k k' h]
  exact pointsTo_split_subset (Finset.subset_univ _)

/-- The chunks as the kernel's slices hold them. -/
theorem set_sC (c : Dev nD) (k : Fin 8) : (sC c k).view.set = (chS c k).set := (View.set_slice _ _).trans Finset.map_refl
theorem set_xC (k : Fin 8) : (xC k).view.set = (chR k).set := (View.set_slice _ _).trans Finset.map_refl
theorem set_yC (k : Fin 8) : (yC k).view.set = (chR k).set := (View.set_slice _ _).trans Finset.map_refl

/-! ## What lands -/

theorem xp_mod (c : Dev nD) : (xp c).val % 2 = c.val % 2 := by revert c; decide

/-- A chunk sent across the x axis lands as its rows of the receiver's first landing buffer. -/
theorem land_x (c : Dev nD) (k : Fin 8) (fd : (cc0_scratch1 : Ref sig .tc).ty.Contents (Elt F)) :
    ∀ i ∈ (chR k).set, (xC k).view.write (Elt F) fd ((sC c k).view.read (Elt F) (sent m ρ c)) Finset.univ i = XB m ρ (xp c) i := by
  intro i hi
  obtain ⟨j, -, rfl⟩ := Finset.mem_map.mp (show i ∈ Finset.univ.map (xC k).view.emb from (Finset.ext_iff.mp (set_xC k) i).mpr hi)
  rw [View.write_emb_of_mem _ _ (Finset.mem_univ j)]
  show sent m ρ c ((chS c k).emb j) = sent m ρ (xp (xp c)) (srcRow (xp (xp c)) ((chR k).emb j))
  rw [xp_xp]
  congr 1
  funext a
  have hoff := k0_off1_eq c k
  fin_cases a
  · refine Fin.ext ?_
    show k0_off1 c (BitVec.ofNat 32 (64 * k.val)) 0 + 1 * (j 0).val = 512 * (c.val % 2) + (64 * k.val + 1 * (j 0).val)
    rw [hoff]; show 512 * (c.val % 2) + 64 * k.val + 1 * (j 0).val = _; omega
  · refine Fin.ext ?_
    show k0_off1 c (BitVec.ofNat 32 (64 * k.val)) 1 + 1 * (j 1).val = 0 + 1 * (j 1).val
    rw [hoff]; rfl

/-- A chunk passed on across the y axis lands as its rows of the receiver's second landing buffer. -/
theorem land_y (c : Dev nD) (k : Fin 8) (fd : (cc0_scratch2 : Ref sig .tc).ty.Contents (Elt F)) :
    ∀ i ∈ (chR k).set, (yC k).view.write (Elt F) fd ((xC k).view.read (Elt F) (XB m ρ c)) Finset.univ i = YB m ρ (yp c) i := by
  intro i hi
  obtain ⟨j, -, rfl⟩ := Finset.mem_map.mp (show i ∈ Finset.univ.map (yC k).view.emb from (Finset.ext_iff.mp (set_yC k) i).mpr hi)
  rw [View.write_emb_of_mem _ _ (Finset.mem_univ j)]
  show XB m ρ c ((chR k).emb j) = XB m ρ (yp (yp c)) ((chR k).emb j)
  rw [yp_yp]

/-! ## The steps -/

/-- No kernel-wide variants. -/
abbrev 𝒱₀ : Variants := Variants.none

/-- That `prog` runs on device `c` to a state where `Q` holds. -/
abbrev runs (c : Dev nD) {α : Type} (prog : Prog (TpuEff nD τ sig (Elt F) Λ₀ .tc) α) (Q : α → sProp 𝕄) : sProp 𝕄 :=
  wp frame (wpE (defs₀ (F := F)) 𝒱₀ (c : Thread nD τ) none) Set.univ prog Q

/-- What device `c` owes after `n` raises, whatever it has waited for. -/
def due (c : Dev nD) (n : ℕ) : sProp 𝕄 := iprop(∃ W, owes (c : Thread nD τ) (debt c n) W)

variable (K : Dev nD × CI → ℕ)

/-- The right to wait for cell `i` of device `c`: its credit and its position at the first round. -/
def ready (c : Dev nD) (i : CI) : sProp 𝕄 := iprop(cred (tallyAt (kcell (c, i)) () (amt i)) ∗ atPos ER (kcell (c, i)) 0 ∅ 0)

/-- A wait on a cell other than the barrier: the cell closes at zero and what its raise handed over comes. -/
theorem wait_cell (c : Dev nD) (i : CI) (n : ℕ) (hi : i ≠ bar) (hn : (dues.drop n).all (fun e => decide (rank i < rank e.2)) = true)
    {sp sp' : Space} {s s' : Shape} {e e' : EltTy} {sem : DmaSem sig} {src : Memref sig (c : Thread nD τ).2.kind sp' s' e'}
    {κ' : Kind} {dst : Memref sig κ' sp s e} {hsrc : src.view.WordExact} {hdst : dst.view.WordExact}
    (hs : SemLoc.dma sem = csem i) (ha : dst.view.dmaCredit = amt i)
    {α : Type} {Q : α → sProp 𝕄} {k : PUnit → Prog (TpuEff nD τ sig (Elt F) Λ₀ .tc) α} :
    iprop(records m ρ K ∗ levAts L lv ∗ ready c i ∗ due c n)
      ⊢ iprop(((due c n ∗ semVal (kcell (c, i)) 0 ∗ pay m ρ c i false) -∗ runs c (k ⟨⟩) Q)
          -∗ runs c (.op (.waitDma2 sem src dst hsrc hdst) k) Q) := by
  have hmw := mayWait_below (F := F) c (csem i) (rank i) n (lv_cell c i ()) hn
  have hcl := Rounds.cell_close ER (Rd m ρ) (g := kcell (c, i)) (Set.mem_univ (K (c, i))) (fun h => h) (R := 0 + 1) (duties_later m ρ (kcell (c, i)))
  have hr := records_inv m ρ K (c, i)
  have hw (W : Waits sig Unit) := Rounds.wp_wait_rest_token 𝒱₀ ER (Rd m ρ) (c : Thread nD τ) none (defs := defs₀ (F := F)) (κ := K (c, i)) (Q := Q) (k := k)
      (wpE_waitDma2_eq 𝒱₀ (c : Thread nD τ) none Set.univ (defs := defs₀ (F := F)) (sem := sem) (src := src) (dst := dst) (hsrc := hsrc) (hdst := hdst))
      (Set.mem_univ _) () (O := debt c n) (W := W) (R := 0) (m := 0) (T := ∅)
  simp only [hs, ha] at hw
  unfold ready due
  iintro ⟨#HR, #Hlev, ⟨Hc, Hat⟩, ⟨%W, Ho⟩⟩ Hk
  iapply (hw W (by rw [Nat.zero_add, expect_cell m ρ c i hi])) $$ [Hc Ho Hat]
  · isplitr; · iapply hr; iexact HR
    isplitl [Hc]; · iexact Hc
    isplitl [Ho]; · iexact Ho
    isplitr; · iapply hmw; iexact Hlev
    iexact Hat
  iintro ⟨Ho, Hat, -, Hpay⟩
  ihave Hpay' := (Entails.of_eq (rest_cell m ρ c i hi)) $$ Hpay
  imod hcl $$ [Hat] with Hz
  · isplitr; · iapply hr; iexact HR
    iexact Hat
  iapply Hk
  isplitl [Ho]; · iexists _; iexact Ho
  isplitl [Hz]; · iexact Hz
  iexact Hpay'

/-- A transfer that raises cell `iS` of device `c` and cell `iR` of its neighbour on side `b`, the `n`-th raise it owes. -/
theorem send_cell (c : Dev nD) (b : Bool) (iS iR : CI) (hS : iS ≠ bar) (hR : iR ≠ bar) (n : ℕ) (hn : dues[n]? = some (b, iR))
    {c' : Dev nD} (hc : c' = nb b c)
    {sp sp' : Space} {s : Shape} {e : EltTy} {src : Memref sig (c : Thread nD τ).2.kind sp s e} {dst : Memref sig (c' : Thread nD τ).2.kind sp' s e}
    {hsc : dst.view.ref.isScScratch = false} {sS sem : SemLoc sig} {hsrc : src.view.WordExact} {hdst : dst.view.WordExact}
    {hsem : DmaTarget.Typed sp sem (.remote (c' : Thread nD τ) dst sS hsc)}
    (hsS : sS = csem iS) (hsR : sem = csem iR) (hN : dst.view.amount sem = amt iR) (hA : amt iS = amt iR)
    {q : PosShare TreeShare} {fs : Buf (Elt F) (src.view.loc (c : Thread nD τ))} {fd : Buf (Elt F) (dst.view.loc (c' : Thread nD τ))}
    (hp₁ : (src.view.loc (c : Thread nD τ) ↦[src.view.set]{q} fs : sProp 𝕄) ⊢ pay m ρ c iS false)
    (hp₂ : (dst.view.loc (c' : Thread nD τ) ↦[dst.view.set]{fullShare} (dst.view.write (Elt F) fd (src.view.read (Elt F) fs) Finset.univ) : sProp 𝕄)
      ⊢ pay m ρ c' iR false)
    {α : Type} {Q : α → sProp 𝕄} {k : PUnit → Prog (TpuEff nD τ sig (Elt F) Λ₀ .tc) α} :
    iprop(records m ρ K ∗ (src.view.loc (c : Thread nD τ) ↦[src.view.set]{q} fs) ∗ (dst.view.loc (c' : Thread nD τ) ↦[dst.view.set]{fullShare} fd)
        ∗ due c n ∗ dutyTok ER (kcell (c, iS)) 0 false ∗ dutyTok ER (kcell (nb b c, iR)) 0 false)
      ⊢ iprop(((cred (tallyAt (kcell (c, iS)) () (amt iS)) ∗ due c (n + 1)) -∗ runs c (k ⟨⟩) Q)
          -∗ runs c (.op (.enqueueDma src (.remote (c' : Thread nD τ) dst sS hsc) sem hsrc hdst hsem) k) Q) := by
  subst hc hsS hsR
  have hw (W : Waits sig Unit) := Rounds.wp_send_pointsTo 𝒱₀ ER (Rd m ρ) (c : Thread nD τ) none (defs := defs₀ (F := F)) (κ₁ := K (c, iS)) (κ₂ := K (nb b c, iR))
    (hsc := hsc) (hsrc := hsrc) (hdst := hdst) (hsem := hsem) (Q := Q) (k := k)
    (r₁ := 0) (r₂ := 0) (d₁ := false) (d₂ := false) (Es := Set.univ) (Γ := .empty) (fs := fs) (fd := fd) (q := q)
    (by rw [duties_cell, dut_one iS hS]; exact Finset.mem_singleton_self _) (by rw [duties_cell, dut_one iR hR]; exact Finset.mem_singleton_self _)
    () () (amt iR) hN ((amount_cell m ρ c iS false).trans hA) (amount_cell m ρ (nb b c) iR false) (debt c (n + 1)) (O₀ := debt c n) (debt_succ c hn) (W := W)
    (by rw [payload_cell]; exact hp₁) (by rw [payload_cell]; exact hp₂)
  have i₁ := records_inv m ρ K (c, iS)
  have i₂ := records_inv m ρ K (nb b c, iR)
  have r₁ := records_reached m ρ K (c, iS)
  have r₂ := records_reached m ρ K (nb b c, iR)
  unfold due
  iintro ⟨#HR, Hs, Hd, ⟨%W, Ho⟩, HtS, HtR⟩ Hk
  iapply (hw W) $$ [Hs Hd Ho HtS HtR]
  · isplitr; · iapply i₁; iexact HR
    isplitr; · iapply i₂; iexact HR
    isplitl [Hs]; · iexact Hs
    isplitl [Hd]; · iexact Hd
    isplitl [Ho]; · iexact Ho
    isplitl [HtS]; · iexact HtS
    isplitr; · iapply r₁; iexact HR
    isplitl [HtR]; · iexact HtR
    iapply r₂; iexact HR
  iintro ⟨Hc, Ho⟩
  iapply Hk
  rw [hA]
  isplitl [Hc]; · iexact Hc
  iexists W; iexact Ho

end Cert.Exchange
-- ==== Proof.Moves.lean ====
/-
# The exchange's moves

The steps of `Steps`, at the kernel's own operations: the two signals and the wait of the opening handshake, the copy of
the destination words, the copies of the chunks and the waits for them.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Semaphores as the kernel takes them out of their arrays -/

theorem one_fits8 (k : Fin 8) : ∀ a, (![k.val] : Fin 1 → ℕ) a + S1.size a ≤ S8.size a := by revert k; decide

/-- Semaphore `k` of a bank of eight. -/
abbrev bankSem (b : DmaSems sig S8) (k : Fin 8) : DmaSem sig :=
  ((b.slice (Rect.unit (s := S8) ![k.val] S1.size (one_fits8 k))).squeeze S_ squeezes_S1_S_).sem

theorem sem_xS (k : Fin 8) : SemLoc.dma (bankSem cc0_scratch5 k) = csem (xS k) := by revert k; decide
theorem sem_xR (k : Fin 8) : SemLoc.dma (bankSem cc0_scratch6 k) = csem (xR k) := by revert k; decide
theorem sem_yS (k : Fin 8) : SemLoc.dma (bankSem cc0_scratch7 k) = csem (yS k) := by revert k; decide
theorem sem_yR (k : Fin 8) : SemLoc.dma (bankSem cc0_scratch8 k) = csem (yR k) := by revert k; decide

abbrev dsSem : DmaSem sig := ((cc0_scratch4.slice (Rect.unit (s := S2) ![0] S1.size inb_S2_S1_0)).squeeze S_ squeezes_S1_S_).sem
abbrev drSem : DmaSem sig := ((cc0_scratch4.slice (Rect.unit (s := S2) ![1] S1.size inb_S2_S1_1)).squeeze S_ squeezes_S1_S_).sem
theorem sem_dS : SemLoc.dma dsSem = csem dS := by decide
theorem sem_dR : SemLoc.dma drSem = csem dR := by decide

/-! ## The devices the kernel addresses -/

theorem xdev {a : ℕ} (h : a < nD) (c : Dev nD) (e : a = (c.val % 2 + 2) - 2 * (c.val / 2)) : (⟨a, h⟩ : Dev nD) = nb false c := by
  subst e; revert c; decide
theorem ydev {a : ℕ} (h : a < nD) (c : Dev nD) (e : a = (2 * (c.val / 2) + 1) - c.val % 2) : (⟨a, h⟩ : Dev nD) = nb true c := by
  subst e; revert c; decide

theorem credit_xC (k : Fin 8) : (xC k).view.dmaCredit = NX := rfl
theorem credit_yC (k : Fin 8) : (yC k).view.dmaCredit = NX := rfl
theorem credit_sC (c : Dev nD) (k : Fin 8) : (sC c k).view.dmaCredit = NX := rfl
theorem credit_dA : dA.view.dmaCredit = ND := rfl
theorem credit_dB : dB.view.dmaCredit = ND := rfl

theorem xS_ne (k : Fin 8) : xS k ≠ bar := fun h => by cases h
theorem xR_ne (k : Fin 8) : xR k ≠ bar := fun h => by cases h
theorem yS_ne (k : Fin 8) : yS k ≠ bar := fun h => by cases h
theorem yR_ne (k : Fin 8) : yR k ≠ bar := fun h => by cases h

/-! ## What the raises hand over, cell by cell -/

theorem pay_xS (c : Dev nD) (k : Fin 8) (d : Bool) :
    pay m ρ c (xS k) d = (((c : Thread nD τ).loc cc0_scratch0) ↦[(chS c k).set]{LSh} sent m ρ c : sProp 𝕄) := rfl
theorem pay_xR (c : Dev nD) (k : Fin 8) (d : Bool) :
    pay m ρ c (xR k) d = (((c : Thread nD τ).loc cc0_scratch1) ↦[(chR k).set]{fullShare} XB m ρ c : sProp 𝕄) := rfl
theorem pay_yS (c : Dev nD) (k : Fin 8) (d : Bool) :
    pay m ρ c (yS k) d = (((c : Thread nD τ).loc cc0_scratch1) ↦[(chR k).set]{LSh} XB m ρ c : sProp 𝕄) := rfl
theorem pay_yR (c : Dev nD) (k : Fin 8) (d : Bool) :
    pay m ρ c (yR k) d = (((c : Thread nD τ).loc cc0_scratch2) ↦[(chR k).set]{fullShare} YB m ρ c : sProp 𝕄) := rfl
theorem pay_dS (c : Dev nD) (d : Bool) :
    pay m ρ c dS d = (((c : Thread nD τ).loc cc0_stg1_0) ↦{fullShare} dstg m ρ c : sProp 𝕄) := rfl
theorem pay_dR (c : Dev nD) (d : Bool) :
    pay m ρ c dR d = (((c : Thread nD τ).loc cc0_scratch3) ↦{fullShare} (dstg m ρ (xp c) : (cc0_scratch3 : Ref sig .tc).ty.Contents (Elt F)) : sProp 𝕄) := rfl

theorem pay_bar_x (c : Dev nD) : pay m ρ c bar false
    = (iprop((∃ f, ((nb false c : Thread nD τ).loc cc0_scratch3) ↦{fullShare} f) ∗ ∃ f, ((nb false c : Thread nD τ).loc cc0_scratch1) ↦{fullShare} f) : sProp 𝕄) := rfl
theorem pay_bar_y (c : Dev nD) : pay m ρ c bar true = (iprop(∃ f, ((nb true c : Thread nD τ).loc cc0_scratch2) ↦{fullShare} f) : sProp 𝕄) := rfl

section Handshake

variable (c : Dev nD)

/-- The signal to the barrier cell of the neighbour on side `b`, the `n`-th raise device `c` owes. -/
theorem signal_bar (b : Bool) (n : ℕ) (hn : dues[n]? = some (b, bar)) {c' : Dev nD} (hc : c' = nb b c)
    {α : Type} {Q : α → sProp 𝕄} {kt : PUnit → Prog (TpuEff nD τ sig (Elt F) Λ₀ .tc) α} :
    iprop(records m ρ K ∗ due c n ∗ dutyTok ER (kcell (nb b c, bar)) 0 b ∗ pay m ρ (nb b c) bar b)
      ⊢ iprop((due c (n + 1) -∗ runs c (kt ⟨⟩) Q) -∗ runs c (.op (.semSignal (c' : Thread nD τ) barS 1) kt) Q) := by
  subst hc
  have hd : b ∈ (Rd (F := F) m ρ).duties (kcell (nb b c, bar)) 0 := by
    rw [duties_cell m ρ (nb b c) bar]; exact Finset.mem_univ _
  have i₁ := records_inv m ρ K (nb b c, bar)
  have r₁ := records_reached m ρ K (nb b c, bar)
  have hw (W : Waits sig Unit) := Rounds.wp_signal 𝒱₀ ER (Rd m ρ) (c : Thread nD τ) none (defs := defs₀ (F := F)) (dst := (nb b c : Thread nD τ)) (κ := K (nb b c, bar))
      (Q := Q) (k := kt) (Es := Set.univ) (Γ := .empty) (sem := barS) (r := 0)
      (d := b) hd (amount_cell m ρ (nb b c) bar b) () (debt c (n + 1)) (debt_succ c hn) (W := W)
  have hp : (Rd (F := F) m ρ).payload ((nb b c : Thread nD τ), .reg barS) 0 b = pay m ρ (nb b c) bar b := payload_cell m ρ (nb b c) bar b
  unfold due
  iintro ⟨#HR, ⟨%W, Ho⟩, Ht, Hp⟩ Hk
  iapply (hw W) $$ [Ho Ht Hp]
  · isplitr; · iapply i₁; iexact HR
    isplitl [Ho]; · iexact Ho
    isplitl [Ht]; · iexact Ht
    isplitl [Hp]; · iapply (Entails.of_eq hp.symm); iexact Hp
    iapply r₁; iexact HR
  iintro Ho
  iapply Hk
  iexists W; iexact Ho

/-- The wait for both neighbours: the barrier's cell closes at zero and the neighbours' landing buffers come. -/
theorem wait_bar (n : ℕ) (hn : (dues.drop n).all (fun e => decide (1 < rank e.2)) = true)
    {α : Type} {Q : α → sProp 𝕄} {kt : PUnit → Prog (TpuEff nD τ sig (Elt F) Λ₀ .tc) α} :
    iprop(records m ρ K ∗ levAts L lv ∗ cred (tallyAt (kcell (c, bar)) () 2) ∗ atPos ER (kcell (c, bar)) 0 ∅ 0 ∗ due c n)
      ⊢ iprop(((due c n ∗ semVal (kcell (c, bar)) 0 ∗ pay m ρ c bar false ∗ pay m ρ c bar true) -∗ runs c (kt ⟨⟩) Q)
          -∗ runs c (.op (.semWait barS 2) kt) Q) := by
  have hmw := mayWait_below (F := F) c (csem bar) 1 n (lv_cell c bar ()) hn
  have hcl := Rounds.cell_close ER (Rd m ρ) (g := kcell (c, bar)) (Set.mem_univ (K (c, bar))) (fun h => h) (R := 0 + 1) (duties_later m ρ (kcell (c, bar)))
  have i₁ := records_inv m ρ K (c, bar)
  have he : 0 + 2 = (Rd (F := F) m ρ).expect (kcell (c, bar)) 0 := by rw [expect_bar m ρ c]
  have hw (W : Waits sig Unit) := Rounds.wp_wait_rest_token 𝒱₀ ER (Rd m ρ) (c : Thread nD τ) none (defs := defs₀ (F := F)) (κ := K (c, bar)) (Q := Q) (k := kt)
      (wpE_semWait_eq 𝒱₀ (c : Thread nD τ) none Set.univ (defs := defs₀ (F := F)) (sem := barS) (k := 2))
      (Set.mem_univ _) () (O := debt c n) (W := W) (R := 0) (m := 0) (T := ∅) he
  have hrb : bigSep ((Rd (F := F) m ρ).duties ((c : Thread nD τ), .reg barS) 0 \ ∅) (fun d => (Rd (F := F) m ρ).payload ((c : Thread nD τ), .reg barS) 0 d)
      = iprop(pay m ρ c bar false ∗ pay m ρ c bar true) := rest_bar m ρ c
  unfold due
  iintro ⟨#HR, #Hlev, Hc, Hat, ⟨%W, Ho⟩⟩ Hk
  iapply (hw W) $$ [Hc Ho Hat]
  · isplitr; · iapply i₁; iexact HR
    isplitl [Hc]; · iexact Hc
    isplitl [Ho]; · iexact Ho
    isplitr; · iapply hmw; iexact Hlev
    iexact Hat
  iintro ⟨Ho, Hat, -, Hpay⟩
  ihave Hpay' := (Entails.of_eq hrb) $$ Hpay
  imod hcl $$ [Hat] with Hz
  · isplitr; · iapply i₁; iexact HR
    iexact Hat
  iapply Hk
  isplitl [Ho]; · iexists _; iexact Ho
  isplitl [Hz]; · iexact Hz
  iexact Hpay'

end Handshake

section Waits

variable (c : Dev nD) (k : Fin 8) (n : ℕ)

/-- The wait for chunk `k` from across the x axis. -/
theorem wait_xR (hn : (dues.drop n).all (fun e => decide (2 < rank e.2)) = true) {h₁ : (sC c k).view.WordExact} {h₂ : (xC k).view.WordExact} {α : Type} {Q : α → sProp 𝕄}
    {kt : PUnit → Prog (TpuEff nD τ sig (Elt F) Λ₀ .tc) α} :
    iprop(records m ρ K ∗ levAts L lv ∗ ready c (xR k) ∗ due c n)
      ⊢ iprop(((due c n ∗ semVal (kcell (c, xR k)) 0 ∗ ((c : Thread nD τ).loc cc0_scratch1) ↦[(chR k).set]{fullShare} XB m ρ c) -∗ runs c (kt ⟨⟩) Q)
          -∗ runs c (.op (.waitDma2 (bankSem cc0_scratch6 k) (sC c k) (xC k) h₁ h₂) kt) Q) :=
  by rw [← pay_xR m ρ c k false]; exact wait_cell m ρ K c (xR k) n (xR_ne k) hn (sem_xR k) (credit_xC k)

/-- The wait for chunk `k` from across the y axis. -/
theorem wait_yR (hn : (dues.drop n).all (fun e => decide (3 < rank e.2)) = true) {h₁ : (xC k).view.WordExact} {h₂ : (yC k).view.WordExact} {α : Type} {Q : α → sProp 𝕄}
    {kt : PUnit → Prog (TpuEff nD τ sig (Elt F) Λ₀ .tc) α} :
    iprop(records m ρ K ∗ levAts L lv ∗ ready c (yR k) ∗ due c n)
      ⊢ iprop(((due c n ∗ semVal (kcell (c, yR k)) 0 ∗ ((c : Thread nD τ).loc cc0_scratch2) ↦[(chR k).set]{fullShare} YB m ρ c) -∗ runs c (kt ⟨⟩) Q)
          -∗ runs c (.op (.waitDma2 (bankSem cc0_scratch8 k) (xC k) (yC k) h₁ h₂) kt) Q) :=
  by rw [← pay_yR m ρ c k false]; exact wait_cell m ρ K c (yR k) n (yR_ne k) hn (sem_yR k) (credit_yC k)

/-- The wait for its own x transfer of chunk `k` to have left. -/
theorem wait_xS (hn : (dues.drop n).all (fun e => decide (0 < rank e.2)) = true) {h₁ : (xC k).view.WordExact} {h₂ : (sC c k).view.WordExact} {α : Type} {Q : α → sProp 𝕄}
    {kt : PUnit → Prog (TpuEff nD τ sig (Elt F) Λ₀ .tc) α} :
    iprop(records m ρ K ∗ levAts L lv ∗ ready c (xS k) ∗ due c n)
      ⊢ iprop(((due c n ∗ semVal (kcell (c, xS k)) 0 ∗ ((c : Thread nD τ).loc cc0_scratch0) ↦[(chS c k).set]{LSh} sent m ρ c) -∗ runs c (kt ⟨⟩) Q)
          -∗ runs c (.op (.waitDma2 (bankSem cc0_scratch5 k) (xC k) (sC c k) h₁ h₂) kt) Q) :=
  by rw [← pay_xS m ρ c k false]; exact wait_cell m ρ K c (xS k) n (xS_ne k) hn (sem_xS k) (credit_sC c k)

/-- The wait for its own y transfer of chunk `k` to have left. -/
theorem wait_yS (hn : (dues.drop n).all (fun e => decide (0 < rank e.2)) = true) {h₁ : (yC k).view.WordExact} {h₂ : (xC k).view.WordExact} {α : Type} {Q : α → sProp 𝕄}
    {kt : PUnit → Prog (TpuEff nD τ sig (Elt F) Λ₀ .tc) α} :
    iprop(records m ρ K ∗ levAts L lv ∗ ready c (yS k) ∗ due c n)
      ⊢ iprop(((due c n ∗ semVal (kcell (c, yS k)) 0 ∗ ((c : Thread nD τ).loc cc0_scratch1) ↦[(chR k).set]{LSh} XB m ρ c) -∗ runs c (kt ⟨⟩) Q)
          -∗ runs c (.op (.waitDma2 (bankSem cc0_scratch7 k) (yC k) (xC k) h₁ h₂) kt) Q) :=
  by rw [← pay_yS m ρ c k false]; exact wait_cell m ρ K c (yS k) n (yS_ne k) hn (sem_yS k) (credit_xC k)

/-- The wait for its own destination words to have left. -/
theorem wait_dS (hn : (dues.drop n).all (fun e => decide (0 < rank e.2)) = true) {h₁ : dB.view.WordExact} {h₂ : dA.view.WordExact} {α : Type} {Q : α → sProp 𝕄}
    {kt : PUnit → Prog (TpuEff nD τ sig (Elt F) Λ₀ .tc) α} :
    iprop(records m ρ K ∗ levAts L lv ∗ ready c dS ∗ due c n)
      ⊢ iprop(((due c n ∗ semVal (kcell (c, dS)) 0 ∗ ((c : Thread nD τ).loc cc0_stg1_0) ↦{fullShare} dstg m ρ c) -∗ runs c (kt ⟨⟩) Q)
          -∗ runs c (.op (.waitDma2 dsSem dB dA h₁ h₂) kt) Q) :=
  by rw [← pay_dS m ρ c false]; exact wait_cell m ρ K c dS n (by decide) hn sem_dS credit_dA

/-- The wait for the destination words from across the x axis. -/
theorem wait_dR (hn : (dues.drop n).all (fun e => decide (2 < rank e.2)) = true) {h₁ : dA.view.WordExact} {h₂ : dB.view.WordExact} {α : Type} {Q : α → sProp 𝕄}
    {kt : PUnit → Prog (TpuEff nD τ sig (Elt F) Λ₀ .tc) α} :
    iprop(records m ρ K ∗ levAts L lv ∗ ready c dR ∗ due c n)
      ⊢ iprop(((due c n ∗ semVal (kcell (c, dR)) 0
            ∗ ((c : Thread nD τ).loc cc0_scratch3) ↦{fullShare} (dstg m ρ (xp c) : (cc0_scratch3 : Ref sig .tc).ty.Contents (Elt F))) -∗ runs c (kt ⟨⟩) Q)
          -∗ runs c (.op (.waitDma2 drSem dA dB h₁ h₂) kt) Q) :=
  by rw [← pay_dR m ρ c false]; exact wait_cell m ρ K c dR n (by decide) hn sem_dR credit_dB

end Waits

section Sends

variable (c : Dev nD) (k : Fin 8) {c' : Dev nD}

/-- What the x transfer of chunk `k` needs besides its source: its two duties, the position at its own cell, and the
    neighbour's rows. -/
def xPre : sProp 𝕄 :=
  iprop(dutyTok ER (kcell (c, xS k)) 0 false ∗ dutyTok ER (kcell (nb false c, xR k)) 0 false ∗ atPos ER (kcell (c, xS k)) 0 ∅ 0
    ∗ ∃ f, ((nb false c : Thread nD τ).loc cc0_scratch1) ↦[(chR k).set]{fullShare} f)
/-- The same of the y transfer. -/
def yPre : sProp 𝕄 :=
  iprop(dutyTok ER (kcell (c, yS k)) 0 false ∗ dutyTok ER (kcell (nb true c, yR k)) 0 false ∗ atPos ER (kcell (c, yS k)) 0 ∅ 0
    ∗ ∃ f, ((nb true c : Thread nD τ).loc cc0_scratch2) ↦[(chR k).set]{fullShare} f)
/-- The same of the copy of the destination words. -/
def dPre : sProp 𝕄 :=
  iprop(dutyTok ER (kcell (c, dS)) 0 false ∗ dutyTok ER (kcell (nb false c, dR)) 0 false ∗ atPos ER (kcell (c, dS)) 0 ∅ 0
    ∗ ∃ f, ((nb false c : Thread nD τ).loc cc0_scratch3) ↦{fullShare} f)

theorem due_x : dues[3 + k.val]? = some (false, xR k) := by revert k; decide
theorem due_y : dues[11 + k.val]? = some (true, yR k) := by revert k; decide

/-- The x transfer of chunk `k`. -/
theorem send_x (hc : c' = nb false c) {hsc : (xC k).view.ref.isScScratch = false} {h₁ : (sC c k).view.WordExact} {h₂ : (xC k).view.WordExact}
    {hsem : DmaTarget.Typed .vmem (.dma (bankSem cc0_scratch6 k)) (.remote (Dev.tc c' : Thread nD τ) (xC k) (.dma (bankSem cc0_scratch5 k)) hsc)} {α : Type} {Q : α → sProp 𝕄}
    {kt : PUnit → Prog (TpuEff nD τ sig (Elt F) Λ₀ .tc) α} :
    iprop(records m ρ K ∗ xPre (F := F) c k ∗ (((c : Thread nD τ).loc cc0_scratch0) ↦[(chS c k).set]{LSh} sent m ρ c) ∗ due c (3 + k.val))
      ⊢ iprop(((ready c (xS k) ∗ due c (3 + k.val + 1)) -∗ runs c (kt ⟨⟩) Q)
          -∗ runs c (.op (.enqueueDma (sC c k) (.remote (Dev.tc c' : Thread nD τ) (xC k) (.dma (bankSem cc0_scratch5 k)) hsc)
              (.dma (bankSem cc0_scratch6 k)) h₁ h₂ hsem) kt) Q) := by
  subst hc
  unfold xPre ready
  iintro ⟨#HR, ⟨HtS, HtR, Hat, ⟨%f, Hd⟩⟩, Hs, Ho⟩ Hk
  rw [← set_sC c k, ← set_xC k]
  iapply (send_cell m ρ K c false (xS k) (xR k) (xS_ne k) (xR_ne k) (3 + k.val) (due_x k) rfl (sem_xS k) (sem_xR k) rfl rfl
    (src := sC c k) (dst := xC k) (q := LSh) (fs := sent m ρ c) (fd := f)
    (by rw [set_sC]; exact Entails.refl _)
    (by rw [set_xC]; exact Entails.of_eq (pointsTo_congr (land_x m ρ c k f)))) $$ [HtS HtR Hd Hs Ho]
  · isplitr; · iexact HR
    isplitl [Hs]; · iexact Hs
    isplitl [Hd]; · iexact Hd
    isplitl [Ho]; · iexact Ho
    isplitl [HtS] <;> iassumption
  iintro ⟨Hc, Ho⟩
  iapply Hk
  isplitl [Hc Hat]
  · isplitl [Hc] <;> iassumption
  iexact Ho

/-- The y transfer of chunk `k`. -/
theorem send_y (hc : c' = nb true c) {hsc : (yC k).view.ref.isScScratch = false} {h₁ : (xC k).view.WordExact} {h₂ : (yC k).view.WordExact}
    {hsem : DmaTarget.Typed .vmem (.dma (bankSem cc0_scratch8 k)) (.remote (Dev.tc c' : Thread nD τ) (yC k) (.dma (bankSem cc0_scratch7 k)) hsc)} {α : Type} {Q : α → sProp 𝕄}
    {kt : PUnit → Prog (TpuEff nD τ sig (Elt F) Λ₀ .tc) α} :
    iprop(records m ρ K ∗ yPre (F := F) c k ∗ (((c : Thread nD τ).loc cc0_scratch1) ↦[(chR k).set]{LSh} XB m ρ c) ∗ due c (11 + k.val))
      ⊢ iprop(((ready c (yS k) ∗ due c (11 + k.val + 1)) -∗ runs c (kt ⟨⟩) Q)
          -∗ runs c (.op (.enqueueDma (xC k) (.remote (Dev.tc c' : Thread nD τ) (yC k) (.dma (bankSem cc0_scratch7 k)) hsc)
              (.dma (bankSem cc0_scratch8 k)) h₁ h₂ hsem) kt) Q) := by
  subst hc
  unfold yPre ready
  iintro ⟨#HR, ⟨HtS, HtR, Hat, ⟨%f, Hd⟩⟩, Hs, Ho⟩ Hk
  iapply (send_cell m ρ K c true (yS k) (yR k) (yS_ne k) (yR_ne k) (11 + k.val) (due_y k) rfl (sem_yS k) (sem_yR k) rfl rfl
    (src := xC k) (dst := yC k) (q := LSh) (fs := XB m ρ c) (fd := f)
    (by rw [set_xC]; exact Entails.refl _)
    (by rw [set_yC]; exact Entails.of_eq (pointsTo_congr (land_y m ρ c k f)))) $$ [HtS HtR Hd Hs Ho]
  · isplitr; · iexact HR
    isplitl [Hs]; · rw [set_xC]; iexact Hs
    isplitl [Hd]; · rw [set_yC]; iexact Hd
    isplitl [Ho]; · iexact Ho
    isplitl [HtS] <;> iassumption
  iintro ⟨Hc, Ho⟩
  iapply Hk
  isplitl [Hc Hat]
  · isplitl [Hc] <;> iassumption
  iexact Ho

/-- The copy of the destination words. -/
theorem send_d (hc : c' = nb false c) {hsc : dB.view.ref.isScScratch = false} {h₁ : dA.view.WordExact} {h₂ : dB.view.WordExact}
    {hsem : DmaTarget.Typed .vmem (.dma drSem) (.remote (Dev.tc c' : Thread nD τ) dB (.dma dsSem) hsc)} {α : Type} {Q : α → sProp 𝕄}
    {kt : PUnit → Prog (TpuEff nD τ sig (Elt F) Λ₀ .tc) α} :
    iprop(records m ρ K ∗ dPre (F := F) c ∗ (((c : Thread nD τ).loc cc0_stg1_0) ↦{fullShare} dstg m ρ c) ∗ due c 2)
      ⊢ iprop(((ready c dS ∗ due c 3) -∗ runs c (kt ⟨⟩) Q)
          -∗ runs c (.op (.enqueueDma dA (.remote (Dev.tc c' : Thread nD τ) dB (.dma dsSem) hsc) (.dma drSem) h₁ h₂ hsem) kt) Q) := by
  subst hc
  unfold dPre ready
  have e₁ : dA.view.set = Finset.univ := View.set_whole _
  have e₂ : dB.view.set = Finset.univ := View.set_whole _
  iintro ⟨#HR, ⟨HtS, HtR, Hat, ⟨%f, Hd⟩⟩, Hs, Ho⟩ Hk
  iapply (send_cell m ρ K c false dS dR (by decide) (by decide) 2 rfl rfl sem_dS sem_dR rfl rfl
    (src := dA) (dst := dB) (q := fullShare) (fs := dstg m ρ c) (fd := f)
    (by rw [e₁]; exact Entails.refl _)
    (by rw [e₂, show dA.view.read (Elt F) (dstg m ρ c) = dstg m ρ c from View.read_whole _ _]
        rw [show dB.view.write (Elt F) f (dstg m ρ c) Finset.univ = dstg m ρ c from View.write_whole_univ _ _ _]
        show _ ⊢ (((nb false c : Thread nD τ).loc cc0_scratch3) ↦{fullShare} dstg m ρ (xp (xp c)) : sProp 𝕄)
        rw [xp_xp])) $$ [HtS HtR Hd Hs Ho]
  · isplitr; · iexact HR
    isplitl [Hs]; · rw [e₁]; iexact Hs
    isplitl [Hd]; · rw [e₂]; iexact Hd
    isplitl [Ho]; · iexact Ho
    isplitl [HtS] <;> iassumption
  iintro ⟨Hc, Ho⟩
  iapply Hk
  isplitl [Hc Hat]
  · isplitl [Hc] <;> iassumption
  iexact Ho

end Sends

end Cert.Exchange
-- ==== Proof.Body1.lean ====
/-
# The kernel's parts, I: the handshake and the transfers across the x axis
-/
module

public import proofs.«01_k».proof.Proof.Moves

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- A device's x and y coordinates as the kernel computes them. -/
def xw : BitVec 32 := Scalar.remsi (Scalar.divsi (Dev.word c) 2#32) 2#32
def yw : BitVec 32 := Scalar.remsi (Scalar.divsi (Dev.word c) 1#32) 2#32

/-! ## Loads and stores of whole buffers -/

theorem zero2 : (![0, 0] : Fin 2 → ℕ) = fun _ => 0 := funext fun a => by fin_cases a <;> rfl

/-- The whole of a 1024 × 512 buffer as the kernel's loads and stores name it. -/
abbrev rX : Rect S1024x512 := Rect.unit (s := S1024x512) ![0, 0] S1024x512.size inb_S1024x512_S1024x512_0_0
/-- The whole of the destination words. -/
abbrev rD : Rect S1x1024 := Rect.unit (s := S1x1024) ![0, 0] S1x1024.size inb_S1x1024_S1x1024_0_0

/-! ## Part 1 -/

/-- The two duties and the position that the copy of the destination words uses. -/
def dTok : sProp 𝕄 :=
  iprop(dutyTok ER (kcell (c, dS)) 0 false ∗ dutyTok ER (kcell (nb false c, dR)) 0 false ∗ atPos ER (kcell (c, dS)) 0 ∅ 0)

/-- What the handshake uses: the duties of the two neighbours' barrier cells, its own barrier's credit and position, and
    the landing buffers it hands over. -/
def shake : sProp 𝕄 :=
  iprop(dutyTok ER (kcell (nb false c, bar)) 0 false ∗ dutyTok ER (kcell (nb true c, bar)) 0 true
    ∗ cred (tallyAt (kcell (c, bar)) () 2) ∗ atPos ER (kcell (c, bar)) 0 ∅ 0
    ∗ (∃ f, ((c : Thread nD τ).loc cc0_scratch1) ↦{fullShare} f) ∗ (∃ f, ((c : Thread nD τ).loc cc0_scratch2) ↦{fullShare} f)
    ∗ (∃ f, ((c : Thread nD τ).loc cc0_scratch3) ↦{fullShare} f))

abbrev part1 := k0_part1 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 1: the handshake, the copy of the destination words started, the rows loaded. -/
theorem part1_spec (f : (cc0_scratch0 : Ref sig .tc).ty.Contents (Elt F)) {Kt} :
    iprop(records m ρ K ∗ levAts L lv ∗ shake (F := F) c ∗ dTok (F := F) c ∗ due c 0
        ∗ (((c : Thread nD τ).loc cc0_stg0_0) ↦{fullShare} xstg m ρ c)
        ∗ (((c : Thread nD τ).loc cc0_stg1_0) ↦{fullShare} dstg m ρ c)
        ∗ (((c : Thread nD τ).loc cc0_scratch0) ↦{fullShare} f)
        ∗ ((semVal (kcell (c, bar)) 0 ∗ ready c dS ∗ due c 3
            ∗ (((c : Thread nD τ).loc cc0_stg0_0) ↦{fullShare} xstg m ρ c)
            ∗ (((c : Thread nD τ).loc cc0_scratch0) ↦{fullShare} f)
            ∗ (∃ f, ((nb false c : Thread nD τ).loc cc0_scratch1) ↦{fullShare} f) ∗ (∃ f, ((nb true c : Thread nD τ).loc cc0_scratch2) ↦{fullShare} f))
          -∗ Kt ⟨c, xw c, yw c, Scalar.subi 1#32 (xw c), Scalar.subi 1#32 (yw c), sent m ρ c⟩))
      ⊢ runs c (part1 (F := F)) Kt := by
  unfold part1
  simp only [k0_part1_eq_skeleton]; unfold k0_part1_skel
  simp only [semSignalWord, semWaitWord, Prog.lift, Prog.bind_op, Prog.bind_ret, Prog.pure_eq_ret, wp_deviceId]
  rw [xdev _ c (k0_dev1_eq c), ydev _ c (k0_dev2_eq c)]
  unfold shake dTok xw yw sent
  iintro ⟨#HR, #Hlev, ⟨HtX, HtY, HcB, HatB, Hx1, Hx2, Hx3⟩, ⟨HtS, HtR, HatS⟩, Ho, Hx, Hd, Hs, Hk⟩
  iapply (signal_bar m ρ K c false 0 rfl rfl) $$ [Ho HtX Hx1 Hx3]
  · isplitr; · iexact HR
    isplitl [Ho]; · iexact Ho
    isplitl [HtX]; · iexact HtX
    rw [pay_bar_x, nb_nb]
    isplitl [Hx3] <;> iassumption
  iintro Ho
  iapply (signal_bar m ρ K c true 1 rfl rfl) $$ [Ho HtY Hx2]
  · isplitr; · iexact HR
    isplitl [Ho]; · iexact Ho
    isplitl [HtY]; · iexact HtY
    rw [pay_bar_y, nb_nb]
    iexact Hx2
  iintro Ho
  iapply (wait_bar m ρ K c 2 (by decide)) $$ [Ho HcB HatB]
  · isplitr; · iexact HR
    isplitr; · iexact Hlev
    isplitl [HcB]; · iexact HcB
    isplitl [HatB] <;> iassumption
  rw [pay_bar_x, pay_bar_y]
  iintro ⟨Ho, Hz, ⟨Hn3, Hn1⟩, Hn2⟩
  iapply (send_d m ρ K c (xdev _ c (k0_dev3_eq c))) $$ [HtS HtR HatS Hn3 Hd Ho]
  · isplitr; · iexact HR
    isplitl [HtS HtR HatS Hn3]
    · unfold dPre
      isplitl [HtS]; · iexact HtS
      isplitl [HtR]; · iexact HtR
      isplitl [HatS] <;> iassumption
    isplitl [Hd]; · iexact Hd
    iexact Ho
  iintro ⟨Hrd, Ho⟩
  iapply (wp_load 𝒱₀ (c : Thread nD τ) none Set.univ (m := xA) (Finset.subset_univ _)) $$ Hx; iintro Hx
  rw [show xA.view.readAt (Elt F) rX.toLoadRect (xstg m ρ c) = xstg m ρ c from Memref.readAt_unit_zero (Elt F) cc0_stg0_0 zero2 _ _]
  iapply (wp_load 𝒱₀ (c : Thread nD τ) none Set.univ (m := sA) (Finset.subset_univ _)) $$ Hs; iintro Hs
  rw [wp_ret]; imodintro
  iapply Hk
  isplitl [Hz]; · iexact Hz
  isplitl [Hrd]; · iexact Hrd
  isplitl [Ho]; · iexact Ho
  isplitl [Hx]; · iexact Hx
  isplitl [Hs]; · iexact Hs
  isplitl [Hn1] <;> iassumption

/-! ## Parts 2 to 4 -/

theorem eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The lent half of chunk `k` of the send buffer, -/
abbrev sL (k : Fin 8) : sProp 𝕄 := ((c : Thread nD τ).loc cc0_scratch0) ↦[(chS c k).set]{LSh} sent m ρ c
/-- the lent half of its rows that are not sent, -/
abbrev sRest : sProp 𝕄 := ((c : Thread nD τ).loc cc0_scratch0) ↦[Finset.univ \ sentRows c]{LSh} sent m ρ c
/-- and the half of the whole that stays. -/
abbrev sR : sProp 𝕄 := ((c : Thread nD τ).loc cc0_scratch0) ↦{RSh} sent m ρ c

/-- The send buffer as its halves and chunks. -/
theorem sbuf_split :
    (((c : Thread nD τ).loc cc0_scratch0) ↦{fullShare} sent m ρ c : sProp 𝕄)
      ⊣⊢ iprop(((sL m ρ c 0 ∗ sL m ρ c 1 ∗ sL m ρ c 2 ∗ sL m ρ c 3 ∗ sL m ρ c 4 ∗ sL m ρ c 5 ∗ sL m ρ c 6 ∗ sL m ρ c 7) ∗ sRest m ρ c) ∗ sR m ρ c) := by
  rw [← eight (fun k => sL m ρ c k)]
  have h₁ := pointsTo_share (Val := Elt F) (Ix := Unit) (Name := ℕ) (U := UU) (Lvl := ℕ) (ℓ := (c : Thread nD τ).loc cc0_scratch0) (I := Finset.univ)
    (f := sent m ρ c) (PosShare.mem_left_op_right fullShare)
  have h₂ := sbuf_chunks (F := F) c LSh (sent m ρ c)
  exact ⟨h₁.1.trans (sep_mono_left h₂.1), (sep_mono_left h₂.2).trans h₁.2⟩

abbrev part2 := k0_part2 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8
abbrev part3 := k0_part3 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8
abbrev part4 := k0_part4 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 2: the rows stored into the send buffer, chunks 0 and 1 sent. -/
theorem part2_spec (v5 v6 : BitVec 32) (f : (cc0_scratch0 : Ref sig .tc).ty.Contents (Elt F)) {Kt} :
    iprop(records m ρ K ∗ due c 3 ∗ (((c : Thread nD τ).loc cc0_scratch0) ↦{fullShare} f) ∗ xPre (F := F) c 0 ∗ xPre (F := F) c 1
        ∗ ((due c 5 ∗ (ready c (xS 0) ∗ ready c (xS 1))
            ∗ (sL m ρ c 2 ∗ sL m ρ c 3 ∗ sL m ρ c 4 ∗ sL m ρ c 5 ∗ sL m ρ c 6 ∗ sL m ρ c 7) ∗ sRest m ρ c ∗ sR m ρ c)
          -∗ Kt (Scalar.muli v5 512#32)))
      ⊢ runs c (part2 (F := F) c v5 v6 (sent m ρ c)) Kt := by
  unfold part2
  simp only [k0_part2_eq_skeleton]; unfold k0_part2_skel
  simp only [Prog.lift, Prog.bind_op, Prog.bind_ret, Prog.pure_eq_ret]
  iintro ⟨#HR, Ho, Hs, Hp0, Hp1, Hk⟩
  iapply (wp_store 𝒱₀ (c : Thread nD τ) none Set.univ (m := sA) (r := rX) (Mk := Finset.univ) (Finset.subset_univ _)) $$ Hs; iintro Hs
  rw [show (sA.access rX : View sig .tc _ _ _).write (Elt F) f (sent m ρ c) Finset.univ = sent m ρ c from
    Memref.write_access_unit_zero_univ (Elt F) cc0_scratch0 zero2 _ _ _]
  ihave Hs' := (sbuf_split m ρ c).1 $$ Hs
  icases Hs' with ⟨⟨⟨H0, H1, Hc⟩, Hrest⟩, Hr⟩
  iapply (send_x m ρ K c 0 (xdev _ c (k0_dev4_eq c))) $$ [Hp0 H0 Ho]
  · isplitr; · iexact HR
    isplitl [Hp0]; · iexact Hp0
    isplitl [H0] <;> iassumption
  iintro ⟨Hy0, Ho⟩
  iapply (send_x m ρ K c 1 (xdev _ c (k0_dev5_eq c))) $$ [Hp1 H1 Ho]
  · isplitr; · iexact HR
    isplitl [Hp1]; · iexact Hp1
    isplitl [H1] <;> iassumption
  iintro ⟨Hy1, Ho⟩
  unfold runs; rw [wp_ret]; imodintro
  iapply Hk
  isplitl [Ho]; · iexact Ho
  isplitl [Hy0 Hy1]; · isplitl [Hy0] <;> iassumption
  isplitl [Hc]; · iexact Hc
  isplitl [Hrest] <;> iassumption

/-- Part 3: chunks 2, 3 and 4 sent. -/
theorem part3_spec (v5 v6 v30 : BitVec 32) {Kt} :
    iprop(records m ρ K ∗ due c 5 ∗ (sL m ρ c 2 ∗ xPre (F := F) c 2) ∗ (sL m ρ c 3 ∗ xPre (F := F) c 3) ∗ (sL m ρ c 4 ∗ xPre (F := F) c 4)
        ∗ ((due c 8 ∗ ready c (xS 2) ∗ ready c (xS 3) ∗ ready c (xS 4)) -∗ Kt ⟨⟩))
      ⊢ runs c (part3 (F := F) c v5 v6 v30) Kt := by
  unfold part3
  simp only [k0_part3_eq_skeleton]; unfold k0_part3_skel
  simp only [Prog.lift, Prog.bind_op, Prog.bind_ret, Prog.pure_eq_ret]
  iintro ⟨#HR, Ho, ⟨H2, Hp2⟩, ⟨H3, Hp3⟩, ⟨H4, Hp4⟩, Hk⟩
  iapply (send_x m ρ K c 2 (xdev _ c (k0_dev6_eq c))) $$ [Hp2 H2 Ho]
  · isplitr; · iexact HR
    isplitl [Hp2]; · iexact Hp2
    isplitl [H2] <;> iassumption
  iintro ⟨Hy2, Ho⟩
  iapply (send_x m ρ K c 3 (xdev _ c (k0_dev7_eq c))) $$ [Hp3 H3 Ho]
  · isplitr; · iexact HR
    isplitl [Hp3]; · iexact Hp3
    isplitl [H3] <;> iassumption
  iintro ⟨Hy3, Ho⟩
  iapply (send_x m ρ K c 4 (xdev _ c (k0_dev8_eq c))) $$ [Hp4 H4 Ho]
  · isplitr; · iexact HR
    isplitl [Hp4]; · iexact Hp4
    isplitl [H4] <;> iassumption
  iintro ⟨Hy4, Ho⟩
  unfold runs; rw [wp_ret]; imodintro
  iapply Hk
  isplitl [Ho]; · iexact Ho
  isplitl [Hy2]; · iexact Hy2
  isplitl [Hy3] <;> iassumption

/-- Part 4: chunks 5, 6 and 7 sent; the destination words have left. -/
theorem part4_spec (v5 v6 v30 : BitVec 32) {Kt} :
    iprop(records m ρ K ∗ levAts L lv ∗ due c 8 ∗ (sL m ρ c 5 ∗ xPre (F := F) c 5) ∗ (sL m ρ c 6 ∗ xPre (F := F) c 6) ∗ (sL m ρ c 7 ∗ xPre (F := F) c 7)
        ∗ ready c dS
        ∗ ((due c 11 ∗ (ready c (xS 5) ∗ ready c (xS 6) ∗ ready c (xS 7)) ∗ semVal (kcell (c, dS)) 0
            ∗ ((c : Thread nD τ).loc cc0_stg1_0) ↦{fullShare} dstg m ρ c) -∗ Kt (iota .tc S1024x1024 32 [0] iota_S1024x1024_d0_w32)))
      ⊢ runs c (part4 (F := F) c v5 v6 v30) Kt := by
  unfold part4
  simp only [k0_part4_eq_skeleton]; unfold k0_part4_skel
  simp only [Prog.lift, Prog.bind_op, Prog.bind_ret, Prog.pure_eq_ret]
  iintro ⟨#HR, #Hlev, Ho, ⟨H5, Hp5⟩, ⟨H6, Hp6⟩, ⟨H7, Hp7⟩, Hrd, Hk⟩
  iapply (send_x m ρ K c 5 (xdev _ c (k0_dev9_eq c))) $$ [Hp5 H5 Ho]
  · isplitr; · iexact HR
    isplitl [Hp5]; · iexact Hp5
    isplitl [H5] <;> iassumption
  iintro ⟨Hy5, Ho⟩
  iapply (send_x m ρ K c 6 (xdev _ c (k0_dev10_eq c))) $$ [Hp6 H6 Ho]
  · isplitr; · iexact HR
    isplitl [Hp6]; · iexact Hp6
    isplitl [H6] <;> iassumption
  iintro ⟨Hy6, Ho⟩
  iapply (send_x m ρ K c 7 (xdev _ c (k0_dev11_eq c))) $$ [Hp7 H7 Ho]
  · isplitr; · iexact HR
    isplitl [Hp7]; · iexact Hp7
    isplitl [H7] <;> iassumption
  iintro ⟨Hy7, Ho⟩
  iapply (wait_dS m ρ K c 11 (by decide)) $$ [Hrd Ho]
  · isplitr; · iexact HR
    isplitr; · iexact Hlev
    isplitl [Hrd] <;> iassumption
  iintro ⟨Ho, Hz, Hd⟩
  unfold runs; rw [wp_ret]; imodintro
  iapply Hk
  isplitl [Ho]; · iexact Ho
  isplitl [Hy5 Hy6 Hy7]
  · isplitl [Hy5]; · iexact Hy5
    isplitl [Hy6] <;> iassumption
  isplitl [Hz] <;> iassumption

end Cert.Exchange
-- ==== Proof.Body2.lean ====
/-
# The kernel's parts, II: the received chunks sent on across the y axis
-/
module

public import proofs.«01_k».proof.Proof.Body1

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- The lent half of chunk `k` of the x landing buffer, -/
abbrev xL (k : Fin 8) : sProp 𝕄 := ((c : Thread nD τ).loc cc0_scratch1) ↦[(chR k).set]{LSh} XB m ρ c
/-- the half of it that stays, -/
abbrev xT (k : Fin 8) : sProp 𝕄 := ((c : Thread nD τ).loc cc0_scratch1) ↦[(chR k).set]{RSh} XB m ρ c
/-- and that half of the whole buffer. -/
abbrev xTT : sProp 𝕄 := ((c : Thread nD τ).loc cc0_scratch1) ↦{RSh} XB m ρ c

/-- The eight kept halves are the kept half of the whole. -/
theorem xT_join : iprop(xT m ρ c 0 ∗ xT m ρ c 1 ∗ xT m ρ c 2 ∗ xT m ρ c 3 ∗ xT m ρ c 4 ∗ xT m ρ c 5 ∗ xT m ρ c 6 ∗ xT m ρ c 7) = xTT m ρ c := by
  rw [← eight (fun k => xT m ρ c k)]; exact (xbuf_chunks (F := F) c RSh (XB m ρ c)).symm

section Recv
variable (k : Fin 8) (n : ℕ)
/-- The wait for chunk `k` from across the x axis, its halves apart. -/
theorem recv_x (hn : (dues.drop n).all (fun e => decide (2 < rank e.2)) = true) {h₁ : (sC c k).view.WordExact} {h₂ : (xC k).view.WordExact} {α : Type} {Q : α → sProp 𝕄}
    {kt : PUnit → Prog (TpuEff nD τ sig (Elt F) Λ₀ .tc) α} :
    iprop(records m ρ K ∗ levAts L lv ∗ ready c (xR k) ∗ due c n)
      ⊢ iprop(((due c n ∗ semVal (kcell (c, xR k)) 0 ∗ xL m ρ c k ∗ xT m ρ c k) -∗ runs c (kt ⟨⟩) Q)
          -∗ runs c (.op (.waitDma2 (bankSem cc0_scratch6 k) (sC c k) (xC k) h₁ h₂) kt) Q) := by
  have h := (pointsTo_share (Val := Elt F) (Ix := Unit) (Name := ℕ) (U := UU) (Lvl := ℕ) (ℓ := (c : Thread nD τ).loc cc0_scratch1) (I := (chR k).set)
    (f := XB m ρ c) (PosShare.mem_left_op_right fullShare)).1
  iintro H Hk
  iapply (wait_xR m ρ K c k n hn) $$ H
  iintro ⟨Ho, Hz, Hx⟩
  ihave Hx' := h $$ Hx
  icases Hx' with ⟨HL, HT⟩
  iapply Hk
  isplitl [Ho]; · iexact Ho
  isplitl [Hz]; · iexact Hz
  isplitl [HL] <;> iassumption
end Recv

abbrev part5 := k0_part5 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 5: the destination words of the device across the x axis are there; the masks and the first counting steps. -/
theorem part5_spec (v2 v5 v6 : BitVec 32) {Kt} :
    iprop(records m ρ K ∗ levAts L lv ∗ due c 11 ∗ ready c dR ∗ (((c : Thread nD τ).loc cc0_stg1_0) ↦{fullShare} dstg m ρ c)
        ∗ ((due c 11 ∗ semVal (kcell (c, dR)) 0 ∗ (((c : Thread nD τ).loc cc0_stg1_0) ↦{fullShare} dstg m ρ c) ∗ (((c : Thread nD τ).loc cc0_scratch3) ↦{fullShare} (dstg m ρ (xp c) : (cc0_scratch3 : Ref sig .tc).ty.Contents (Elt F)))) -∗ Kt ⟨k0_pay2 v2 (dstg m ρ c), k0_pay3 v2 (dstg m ρ (xp c)), k0_pay4 v2 (dstg m ρ c), k0_pay5, k0_pay6 v2 (dstg m ρ c)⟩))
      ⊢ runs c (part5 (F := F) v2 v5 v6) Kt := by
  unfold part5
  simp only [k0_part5_eq_skeleton]; unfold k0_part5_skel
  simp only [Prog.lift, Prog.bind_op, Prog.bind_ret, Prog.pure_eq_ret]
  iintro ⟨#HR, #Hlev, Ho, HrdR, Hd, Hk⟩
  iapply (wait_dR m ρ K c 11 (by decide)) $$ [HrdR Ho]
  · isplitr; · iexact HR
    isplitr; · iexact Hlev
    isplitl [HrdR] <;> iassumption
  iintro ⟨Ho, HzdR, Hd3⟩
  iapply (wp_load 𝒱₀ (c : Thread nD τ) none Set.univ (m := dA) (Finset.subset_univ _)) $$ Hd; iintro Hd
  rw [show dA.view.readAt (Elt F) rD.toLoadRect (dstg m ρ c) = dstg m ρ c from Memref.readAt_unit_zero (Elt F) cc0_stg1_0 zero2 _ _]
  iapply (wp_load 𝒱₀ (c : Thread nD τ) none Set.univ (m := dB) (Finset.subset_univ _)) $$ Hd3; iintro Hd3
  rw [show dB.view.readAt (Elt F) rD.toLoadRect (dstg m ρ (xp c)) = dstg m ρ (xp c) from Memref.readAt_unit_zero (Elt F) cc0_scratch3 zero2 _ _]
  try unfold runs
  rw [wp_ret]; imodintro
  iapply Hk
  isplitl [Ho]; · iexact Ho
  isplitl [HzdR]; · iexact HzdR
  isplitl [Hd]; · iexact Hd
  iexact Hd3

abbrev part6 := k0_part6 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 6: the counts. -/
theorem part6_spec (v134 : IVec S1x1024 1) (v163 : IVec S1x1024 32) (v164 : IVec S1x128 32) (v165 : IVec S1x896 32) {Kt} :
    iprop(records m ρ K ∗ due c 11
        ∗ ((due c 11) -∗ Kt ⟨k0_pay7 v163 v164 v165, k0_pay8 v134, k0_pay9⟩))
      ⊢ runs c (part6 (F := F) v134 v163 v164 v165) Kt := by
  unfold part6
  simp only [k0_part6_eq_skeleton]; unfold k0_part6_skel
  simp only [Prog.lift, Prog.bind_op, Prog.bind_ret, Prog.pure_eq_ret]
  iintro ⟨#HR, Ho, Hk⟩
  try unfold runs
  rw [wp_ret]; imodintro
  iapply Hk
  iexact Ho

abbrev part7 := k0_part7 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 7: the places of the rows; the first chunk is there. -/
theorem part7_spec (v2 v5 v6 : BitVec 32) (v134 : IVec S1x1024 1) (v175 v212 : IVec S1x1024 32) (v213 : IVec S1x512 32) {Kt} :
    iprop(records m ρ K ∗ levAts L lv ∗ due c 11 ∗ ready c (xR 0)
        ∗ ((due c 11 ∗ semVal (kcell (c, xR 0)) 0 ∗ xL m ρ c 0 ∗ xT m ρ c 0) -∗ Kt ⟨k0_pay11 v2 v175 v212 v213, k0_pay12 v2 v5 v175 v212 v213, k0_pay13 v5 v134, Scalar.muli v2 2#32, 0#32⟩))
      ⊢ runs c (part7 (F := F) c v2 v5 v6 v134 v175 v212 v213) Kt := by
  unfold part7
  simp only [k0_part7_eq_skeleton]; unfold k0_part7_skel
  simp only [Prog.lift, Prog.bind_op, Prog.bind_ret, Prog.pure_eq_ret]
  iintro ⟨#HR, #Hlev, Ho, HrxR0, Hk⟩
  iapply (recv_x m ρ K c 0 11 (by decide)) $$ [HrxR0 Ho]
  · isplitr; · iexact HR
    isplitr; · iexact Hlev
    isplitl [HrxR0] <;> iassumption
  iintro ⟨Ho, HzxR0, HL0, HT0⟩
  try unfold runs
  rw [wp_ret]; imodintro
  iapply Hk
  isplitl [Ho]; · iexact Ho
  isplitl [HzxR0]; · iexact HzxR0
  isplitl [HL0]; · iexact HL0
  iexact HT0

abbrev part8 := k0_part8 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 8: chunk 0 sent on, chunk 1 received and sent on. -/
theorem part8_spec (v2 v5 v6 v7 : BitVec 32) (v119 : IVec S1024x1024 32) (v132 : IVec S1x1024 1) (v228 v237 : IVec S1x1024 32) (v252 c0 : BitVec 32) {Kt} :
    iprop(records m ρ K ∗ levAts L lv ∗ due c 11 ∗ xL m ρ c 0 ∗ yPre (F := F) c 0 ∗ ready c (xR 1) ∗ yPre (F := F) c 1
        ∗ ((due c 13 ∗ ready c (yS 0) ∗ semVal (kcell (c, xR 1)) 0 ∗ xT m ρ c 1 ∗ ready c (yS 1)) -∗ Kt ⟨k0_pay14 (F := F) v119 v132 v228, k0_pay15 v237⟩))
      ⊢ runs c (part8 (F := F) c v2 v5 v6 v7 v119 v132 v228 v237 v252 c0) Kt := by
  unfold part8
  simp only [k0_part8_eq_skeleton]; unfold k0_part8_skel
  simp only [Prog.lift, Prog.bind_op, Prog.bind_ret, Prog.pure_eq_ret]
  iintro ⟨#HR, #Hlev, Ho, HL0, Hp0, HrxR1, Hp1, Hk⟩
  iapply (send_y m ρ K c 0 (ydev _ c (k0_dev12_eq c))) $$ [Hp0 HL0 Ho]
  · isplitr; · iexact HR
    isplitl [Hp0]; · iexact Hp0
    isplitl [HL0] <;> iassumption
  iintro ⟨HryS0, Ho⟩
  iapply (recv_x m ρ K c 1 12 (by decide)) $$ [HrxR1 Ho]
  · isplitr; · iexact HR
    isplitr; · iexact Hlev
    isplitl [HrxR1] <;> iassumption
  iintro ⟨Ho, HzxR1, HL1, HT1⟩
  iapply (send_y m ρ K c 1 (ydev _ c (k0_dev13_eq c))) $$ [Hp1 HL1 Ho]
  · isplitr; · iexact HR
    isplitl [Hp1]; · iexact Hp1
    isplitl [HL1] <;> iassumption
  iintro ⟨HryS1, Ho⟩
  try unfold runs
  rw [wp_ret]; imodintro
  iapply Hk
  isplitl [Ho]; · iexact Ho
  isplitl [HryS0]; · iexact HryS0
  isplitl [HzxR1]; · iexact HzxR1
  isplitl [HT1]; · iexact HT1
  iexact HryS1

abbrev part9 := k0_part9 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 9: chunk 2 received and sent on. -/
theorem part9_spec (v2 v5 v6 v7 : BitVec 32) (v119 : IVec S1024x1024 32) (v243 : IVec S1x1024 32) (v287 : IVec S1024x1024 32) {Kt} :
    iprop(records m ρ K ∗ levAts L lv ∗ due c 13 ∗ ready c (xR 2) ∗ yPre (F := F) c 2
        ∗ ((due c 14 ∗ semVal (kcell (c, xR 2)) 0 ∗ xT m ρ c 2 ∗ ready c (yS 2)) -∗ Kt (k0_pay16 (F := F) v119 v243 v287)))
      ⊢ runs c (part9 (F := F) c v2 v5 v6 v7 v119 v243 v287) Kt := by
  unfold part9
  simp only [k0_part9_eq_skeleton]; unfold k0_part9_skel
  simp only [Prog.lift, Prog.bind_op, Prog.bind_ret, Prog.pure_eq_ret]
  iintro ⟨#HR, #Hlev, Ho, HrxR2, Hp2, Hk⟩
  iapply (recv_x m ρ K c 2 13 (by decide)) $$ [HrxR2 Ho]
  · isplitr; · iexact HR
    isplitr; · iexact Hlev
    isplitl [HrxR2] <;> iassumption
  iintro ⟨Ho, HzxR2, HL2, HT2⟩
  iapply (send_y m ρ K c 2 (ydev _ c (k0_dev14_eq c))) $$ [Hp2 HL2 Ho]
  · isplitr; · iexact HR
    isplitl [Hp2]; · iexact Hp2
    isplitl [HL2] <;> iassumption
  iintro ⟨HryS2, Ho⟩
  try unfold runs
  rw [wp_ret]; imodintro
  iapply Hk
  isplitl [Ho]; · iexact Ho
  isplitl [HzxR2]; · iexact HzxR2
  isplitl [HT2]; · iexact HT2
  iexact HryS2

abbrev part10 := k0_part10 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 10: chunk 3 received and sent on, chunk 4 received; the product with the device's own rows. -/
theorem part10_spec (v2 v5 v6 v7 : BitVec 32) (v268 : FVec F S1024x1024 .bf16) {Kt} :
    iprop(records m ρ K ∗ levAts L lv ∗ due c 14 ∗ ready c (xR 3) ∗ yPre (F := F) c 3 ∗ sR m ρ c ∗ ready c (xR 4)
        ∗ ((due c 15 ∗ semVal (kcell (c, xR 3)) 0 ∗ xT m ρ c 3 ∗ ready c (yS 3) ∗ sR m ρ c ∗ semVal (kcell (c, xR 4)) 0 ∗ xL m ρ c 4 ∗ xT m ρ c 4) -∗ Kt (k0_pay17 v268 (sent m ρ c))))
      ⊢ runs c (part10 (F := F) c v2 v5 v6 v7 v268) Kt := by
  unfold part10
  simp only [k0_part10_eq_skeleton]; unfold k0_part10_skel
  simp only [Prog.lift, Prog.bind_op, Prog.bind_ret, Prog.pure_eq_ret]
  iintro ⟨#HR, #Hlev, Ho, HrxR3, Hp3, HR2, HrxR4, Hk⟩
  iapply (recv_x m ρ K c 3 14 (by decide)) $$ [HrxR3 Ho]
  · isplitr; · iexact HR
    isplitr; · iexact Hlev
    isplitl [HrxR3] <;> iassumption
  iintro ⟨Ho, HzxR3, HL3, HT3⟩
  iapply (send_y m ρ K c 3 (ydev _ c (k0_dev15_eq c))) $$ [Hp3 HL3 Ho]
  · isplitr; · iexact HR
    isplitl [Hp3]; · iexact Hp3
    isplitl [HL3] <;> iassumption
  iintro ⟨HryS3, Ho⟩
  iapply (wp_load 𝒱₀ (c : Thread nD τ) none Set.univ (m := sA) (Finset.subset_univ _)) $$ HR2; iintro HR2
  rw [show sA.view.readAt (Elt F) rX.toLoadRect (sent m ρ c) = sent m ρ c from Memref.readAt_unit_zero (Elt F) cc0_scratch0 zero2 _ _]
  iapply (recv_x m ρ K c 4 15 (by decide)) $$ [HrxR4 Ho]
  · isplitr; · iexact HR
    isplitr; · iexact Hlev
    isplitl [HrxR4] <;> iassumption
  iintro ⟨Ho, HzxR4, HL4, HT4⟩
  try unfold runs
  rw [wp_ret]; imodintro
  iapply Hk
  isplitl [Ho]; · iexact Ho
  isplitl [HzxR3]; · iexact HzxR3
  isplitl [HT3]; · iexact HT3
  isplitl [HryS3]; · iexact HryS3
  isplitl [HR2]; · iexact HR2
  isplitl [HzxR4]; · iexact HzxR4
  isplitl [HL4]; · iexact HL4
  iexact HT4

abbrev part11 := k0_part11 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 11: chunks 4 and 5 sent on, 5 and 6 received. -/
theorem part11_spec (v2 v5 v6 v7 : BitVec 32) {Kt} :
    iprop(records m ρ K ∗ levAts L lv ∗ due c 15 ∗ xL m ρ c 4 ∗ yPre (F := F) c 4 ∗ ready c (xR 5) ∗ yPre (F := F) c 5 ∗ ready c (xR 6)
        ∗ ((due c 17 ∗ ready c (yS 4) ∗ semVal (kcell (c, xR 5)) 0 ∗ xT m ρ c 5 ∗ ready c (yS 5) ∗ semVal (kcell (c, xR 6)) 0 ∗ xL m ρ c 6 ∗ xT m ρ c 6) -∗ Kt ⟨⟩))
      ⊢ runs c (part11 (F := F) c v2 v5 v6 v7) Kt := by
  unfold part11
  simp only [k0_part11_eq_skeleton]; unfold k0_part11_skel
  simp only [Prog.lift, Prog.bind_op, Prog.bind_ret, Prog.pure_eq_ret]
  iintro ⟨#HR, #Hlev, Ho, HL4, Hp4, HrxR5, Hp5, HrxR6, Hk⟩
  iapply (send_y m ρ K c 4 (ydev _ c (k0_dev16_eq c))) $$ [Hp4 HL4 Ho]
  · isplitr; · iexact HR
    isplitl [Hp4]; · iexact Hp4
    isplitl [HL4] <;> iassumption
  iintro ⟨HryS4, Ho⟩
  iapply (recv_x m ρ K c 5 16 (by decide)) $$ [HrxR5 Ho]
  · isplitr; · iexact HR
    isplitr; · iexact Hlev
    isplitl [HrxR5] <;> iassumption
  iintro ⟨Ho, HzxR5, HL5, HT5⟩
  iapply (send_y m ρ K c 5 (ydev _ c (k0_dev17_eq c))) $$ [Hp5 HL5 Ho]
  · isplitr; · iexact HR
    isplitl [Hp5]; · iexact Hp5
    isplitl [HL5] <;> iassumption
  iintro ⟨HryS5, Ho⟩
  iapply (recv_x m ρ K c 6 17 (by decide)) $$ [HrxR6 Ho]
  · isplitr; · iexact HR
    isplitr; · iexact Hlev
    isplitl [HrxR6] <;> iassumption
  iintro ⟨Ho, HzxR6, HL6, HT6⟩
  try unfold runs
  rw [wp_ret]; imodintro
  iapply Hk
  isplitl [Ho]; · iexact Ho
  isplitl [HryS4]; · iexact HryS4
  isplitl [HzxR5]; · iexact HzxR5
  isplitl [HT5]; · iexact HT5
  isplitl [HryS5]; · iexact HryS5
  isplitl [HzxR6]; · iexact HzxR6
  isplitl [HL6]; · iexact HL6
  iexact HT6

/-- The whole of a 512 × 512 buffer as a load names it. -/
abbrev rB : Rect S512x512 := Rect.unit (s := S512x512) ![0, 0] S512x512.size inb_S512x512_S512x512_0_0

abbrev part12 := k0_part12 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 12: chunk 6 sent on, chunk 7 received and sent on; the x landing buffer read. -/
theorem part12_spec (v2 v5 v6 v7 : BitVec 32) (v295 : FVec F S1024x1024 .bf16) {Kt} :
    iprop(records m ρ K ∗ levAts L lv ∗ due c 17 ∗ xL m ρ c 6 ∗ yPre (F := F) c 6 ∗ ready c (xR 7) ∗ yPre (F := F) c 7 ∗ xT m ρ c 0 ∗ xT m ρ c 1 ∗ xT m ρ c 2 ∗ xT m ρ c 3 ∗ xT m ρ c 4 ∗ xT m ρ c 5 ∗ xT m ρ c 6
        ∗ ((due c 19 ∗ ready c (yS 6) ∗ semVal (kcell (c, xR 7)) 0 ∗ ready c (yS 7) ∗ xTT m ρ c) -∗ Kt ⟨k0_pay18 v295, XB m ρ c⟩))
      ⊢ runs c (part12 (F := F) c v2 v5 v6 v7 v295) Kt := by
  unfold part12
  simp only [k0_part12_eq_skeleton]; unfold k0_part12_skel
  simp only [Prog.lift, Prog.bind_op, Prog.bind_ret, Prog.pure_eq_ret]
  iintro ⟨#HR, #Hlev, Ho, HL6, Hp6, HrxR7, Hp7, HT0, HT1, HT2, HT3, HT4, HT5, HT6, Hk⟩
  iapply (send_y m ρ K c 6 (ydev _ c (k0_dev18_eq c))) $$ [Hp6 HL6 Ho]
  · isplitr; · iexact HR
    isplitl [Hp6]; · iexact Hp6
    isplitl [HL6] <;> iassumption
  iintro ⟨HryS6, Ho⟩
  iapply (recv_x m ρ K c 7 18 (by decide)) $$ [HrxR7 Ho]
  · isplitr; · iexact HR
    isplitr; · iexact Hlev
    isplitl [HrxR7] <;> iassumption
  iintro ⟨Ho, HzxR7, HL7, HT7⟩
  iapply (send_y m ρ K c 7 (ydev _ c (k0_dev19_eq c))) $$ [Hp7 HL7 Ho]
  · isplitr; · iexact HR
    isplitl [Hp7]; · iexact Hp7
    isplitl [HL7] <;> iassumption
  iintro ⟨HryS7, Ho⟩
  ihave HTT := (Entails.of_eq (xT_join m ρ c)) $$ [HT0 HT1 HT2 HT3 HT4 HT5 HT6 HT7]
  · isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  iapply (wp_load 𝒱₀ (c : Thread nD τ) none Set.univ (m := xB) (Finset.subset_univ _)) $$ HTT; iintro HTT
  rw [show xB.view.readAt (Elt F) rB.toLoadRect (XB m ρ c) = XB m ρ c from Memref.readAt_unit_zero (Elt F) cc0_scratch1 zero2 _ _]
  try unfold runs
  rw [wp_ret]; imodintro
  iapply Hk
  isplitl [Ho]; · iexact Ho
  isplitl [HryS6]; · iexact HryS6
  isplitl [HzxR7]; · iexact HzxR7
  isplitl [HryS7]; · iexact HryS7
  iexact HTT

end Cert.Exchange
-- ==== Proof.Body3.lean ====
/-
# The kernel's parts, III: the chunks from across the y axis, the result, the last waits
-/
module

public import proofs.«01_k».proof.Proof.Body2

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- Chunk `k` of the y landing buffer, -/
abbrev yF (k : Fin 8) : sProp 𝕄 := ((c : Thread nD τ).loc cc0_scratch2) ↦[(chR k).set]{fullShare} YB m ρ c
/-- the positions of its first four chunks and of its last four, -/
def top : Finset (Shape.Idx S512x512) := (chR 0).set ∪ ((chR 1).set ∪ ((chR 2).set ∪ (chR 3).set))
def bot : Finset (Shape.Idx S512x512) := (chR 4).set ∪ ((chR 5).set ∪ ((chR 6).set ∪ (chR 7).set))
/-- and the two halves of the buffer. -/
abbrev yTop : sProp 𝕄 := ((c : Thread nD τ).loc cc0_scratch2) ↦[top]{fullShare} YB m ρ c
abbrev yBot : sProp 𝕄 := ((c : Thread nD τ).loc cc0_scratch2) ↦[bot]{fullShare} YB m ρ c

/-- Four disjoint sets' ownerships are the ownership of their union. -/
theorem four (I₀ I₁ I₂ I₃ : Finset (Shape.Idx S512x512)) (h₀₁ : Disjoint I₀ I₁) (h₀₂ : Disjoint I₀ I₂) (h₀₃ : Disjoint I₀ I₃) (h₁₂ : Disjoint I₁ I₂)
    (h₁₃ : Disjoint I₁ I₃) (h₂₃ : Disjoint I₂ I₃) (f : (cc0_scratch2 : Ref sig .tc).ty.Contents (Elt F)) :
    (((c : Thread nD τ).loc cc0_scratch2) ↦[I₀ ∪ (I₁ ∪ (I₂ ∪ I₃))]{fullShare} f : sProp 𝕄)
      ⊣⊢ iprop((((c : Thread nD τ).loc cc0_scratch2) ↦[I₀]{fullShare} f) ∗ (((c : Thread nD τ).loc cc0_scratch2) ↦[I₁]{fullShare} f)
          ∗ (((c : Thread nD τ).loc cc0_scratch2) ↦[I₂]{fullShare} f) ∗ (((c : Thread nD τ).loc cc0_scratch2) ↦[I₃]{fullShare} f)) := by
  have a := pointsTo_union (Val := Elt F) (Ix := Unit) (Name := ℕ) (U := UU) (Lvl := ℕ) (ℓ := (c : Thread nD τ).loc cc0_scratch2) (f := f) (q := fullShare) h₂₃
  have b := pointsTo_union (Val := Elt F) (Ix := Unit) (Name := ℕ) (U := UU) (Lvl := ℕ) (ℓ := (c : Thread nD τ).loc cc0_scratch2) (f := f) (q := fullShare)
    (Finset.disjoint_union_right.mpr ⟨h₁₂, h₁₃⟩)
  have d := pointsTo_union (Val := Elt F) (Ix := Unit) (Name := ℕ) (U := UU) (Lvl := ℕ) (ℓ := (c : Thread nD τ).loc cc0_scratch2) (f := f) (q := fullShare)
    (Finset.disjoint_union_right.mpr ⟨h₀₁, Finset.disjoint_union_right.mpr ⟨h₀₂, h₀₃⟩⟩)
  exact ⟨d.1.trans (sep_mono_right (b.1.trans (sep_mono_right a.1))), (sep_mono_right ((sep_mono_right a.2).trans b.2)).trans d.2⟩

theorem top_split : yTop m ρ c ⊣⊢ iprop(yF m ρ c 0 ∗ yF m ρ c 1 ∗ yF m ρ c 2 ∗ yF m ρ c 3) :=
  four c _ _ _ _ (chR_disjoint _ _ (by decide)) (chR_disjoint _ _ (by decide)) (chR_disjoint _ _ (by decide)) (chR_disjoint _ _ (by decide)) (chR_disjoint _ _ (by decide)) (chR_disjoint _ _ (by decide)) _
theorem bot_split : yBot m ρ c ⊣⊢ iprop(yF m ρ c 4 ∗ yF m ρ c 5 ∗ yF m ρ c 6 ∗ yF m ρ c 7) :=
  four c _ _ _ _ (chR_disjoint _ _ (by decide)) (chR_disjoint _ _ (by decide)) (chR_disjoint _ _ (by decide)) (chR_disjoint _ _ (by decide)) (chR_disjoint _ _ (by decide)) (chR_disjoint _ _ (by decide)) _

/-- The rows 0 to 255 and 256 to 511 as the loads name them. -/
abbrev rT : Rect S512x512 := Rect.unit (s := S512x512) ![0, 0] S256x512.size inb_S512x512_S256x512_0_0
abbrev rU : Rect S512x512 := Rect.unit (s := S512x512) ![256, 0] S256x512.size inb_S512x512_S256x512_256_0
/-- What they read. -/
def ytop : Vec F S256x512 .bf16 := yB.view.readAt (Elt F) rT.toLoadRect (YB m ρ c)
def ybot : Vec F S256x512 .bf16 := yB.view.readAt (Elt F) rU.toLoadRect (YB m ρ c)

theorem rT_sub : yB.view.setOn rT.toLoadRect.set ⊆ top := by
  intro j hj
  obtain ⟨i, hi, rfl⟩ := Finset.mem_map.mp hj
  have h := (Rect.mem_set_unit.mp (show i ∈ rT.set from hi)) 0
  change i ∈ _
  have h0 : (i 0).val < 256 := by simpa using h.2
  simp only [top, Finset.mem_union, mem_chR]
  revert h0; generalize (i 0).val = r; intro h0
  simp; omega
theorem rU_sub : yB.view.setOn rU.toLoadRect.set ⊆ bot := by
  intro j hj
  obtain ⟨i, hi, rfl⟩ := Finset.mem_map.mp hj
  have h := (Rect.mem_set_unit.mp (show i ∈ rU.set from hi)) 0
  change i ∈ _
  have h0 : 256 ≤ (i 0).val := by simpa using h.1
  have h1 : (i 0).val < 512 := (i 0).isLt
  simp only [bot, Finset.mem_union, mem_chR]
  revert h0 h1; generalize (i 0).val = r; intro h0 h1
  simp; omega

abbrev part13 := k0_part13 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 13: chunks 0 to 2 from across the y axis; the product with the rows from across the x axis. -/
theorem part13_spec (v2 v7 : BitVec 32) (v333 : FVec F S1024x512 .f32) (v406 : FVec F S1024x512 .bf16) (v407 : Vec F S512x512 .bf16) {Kt} :
    iprop(records m ρ K ∗ levAts L lv ∗ due c 19 ∗ ready c (yR 0) ∗ ready c (yR 1) ∗ ready c (yR 2)
        ∗ ((due c 19 ∗ semVal (kcell (c, yR 0)) 0 ∗ yF m ρ c 0 ∗ semVal (kcell (c, yR 1)) 0 ∗ yF m ρ c 1 ∗ semVal (kcell (c, yR 2)) 0 ∗ yF m ρ c 2) -∗ Kt ⟨k0_pay19 v333 v406 v407, 2#32⟩))
      ⊢ runs c (part13 (F := F) v2 v7 v333 v406 v407) Kt := by
  unfold part13
  simp only [k0_part13_eq_skeleton]; unfold k0_part13_skel
  simp only [Prog.lift, Prog.bind_op, Prog.bind_ret, Prog.pure_eq_ret]
  iintro ⟨#HR, #Hlev, Ho, HryR0, HryR1, HryR2, Hk⟩
  iapply (wait_yR m ρ K c 0 19 (by decide)) $$ [HryR0 Ho]
  · isplitr; · iexact HR
    isplitr; · iexact Hlev
    isplitl [HryR0] <;> iassumption
  iintro ⟨Ho, HzyR0, HY0⟩
  iapply (wait_yR m ρ K c 1 19 (by decide)) $$ [HryR1 Ho]
  · isplitr; · iexact HR
    isplitr; · iexact Hlev
    isplitl [HryR1] <;> iassumption
  iintro ⟨Ho, HzyR1, HY1⟩
  iapply (wait_yR m ρ K c 2 19 (by decide)) $$ [HryR2 Ho]
  · isplitr; · iexact HR
    isplitr; · iexact Hlev
    isplitl [HryR2] <;> iassumption
  iintro ⟨Ho, HzyR2, HY2⟩
  try unfold runs
  rw [wp_ret]; imodintro
  iapply Hk
  isplitl [Ho]; · iexact Ho
  isplitl [HzyR0]; · iexact HzyR0
  isplitl [HY0]; · iexact HY0
  isplitl [HzyR1]; · iexact HzyR1
  isplitl [HY1]; · iexact HY1
  isplitl [HzyR2]; · iexact HzyR2
  iexact HY2

abbrev part14 := k0_part14 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 14: chunk 3, its first half read, chunks 4 and 5. -/
theorem part14_spec (v2 v7 : BitVec 32) (v295 : FVec F S1024x1024 .bf16) (v409 : FVec F S1024x512 .f32) (c2 : BitVec 32) {Kt} :
    iprop(records m ρ K ∗ levAts L lv ∗ due c 19 ∗ ready c (yR 3) ∗ yF m ρ c 0 ∗ yF m ρ c 1 ∗ yF m ρ c 2 ∗ ready c (yR 4) ∗ ready c (yR 5)
        ∗ ((due c 19 ∗ semVal (kcell (c, yR 3)) 0 ∗ yTop m ρ c ∗ semVal (kcell (c, yR 4)) 0 ∗ yF m ρ c 4 ∗ semVal (kcell (c, yR 5)) 0 ∗ yF m ρ c 5) -∗ Kt (k0_pay20 v295 v409 (ytop m ρ c))))
      ⊢ runs c (part14 (F := F) v2 v7 v295 v409 c2) Kt := by
  unfold part14
  simp only [k0_part14_eq_skeleton]; unfold k0_part14_skel
  simp only [Prog.lift, Prog.bind_op, Prog.bind_ret, Prog.pure_eq_ret]
  iintro ⟨#HR, #Hlev, Ho, HryR3, HY0, HY1, HY2, HryR4, HryR5, Hk⟩
  iapply (wait_yR m ρ K c 3 19 (by decide)) $$ [HryR3 Ho]
  · isplitr; · iexact HR
    isplitr; · iexact Hlev
    isplitl [HryR3] <;> iassumption
  iintro ⟨Ho, HzyR3, HY3⟩
  ihave HYt := (top_split m ρ c).2 $$ [HY0 HY1 HY2 HY3]
  · isplitl [HY0]; · iexact HY0
    isplitl [HY1]; · iexact HY1
    isplitl [HY2]; · iexact HY2
    iexact HY3
  iapply (wp_load 𝒱₀ (c : Thread nD τ) none Set.univ (m := yB) rT_sub) $$ HYt; iintro HYt
  rw [show yB.view.readAt (Elt F) rT.toLoadRect (YB m ρ c) = ytop m ρ c from rfl]
  iapply (wait_yR m ρ K c 4 19 (by decide)) $$ [HryR4 Ho]
  · isplitr; · iexact HR
    isplitr; · iexact Hlev
    isplitl [HryR4] <;> iassumption
  iintro ⟨Ho, HzyR4, HY4⟩
  iapply (wait_yR m ρ K c 5 19 (by decide)) $$ [HryR5 Ho]
  · isplitr; · iexact HR
    isplitr; · iexact Hlev
    isplitl [HryR5] <;> iassumption
  iintro ⟨Ho, HzyR5, HY5⟩
  try unfold runs
  rw [wp_ret]; imodintro
  iapply Hk
  isplitl [Ho]; · iexact Ho
  isplitl [HzyR3]; · iexact HzyR3
  isplitl [HYt]; · iexact HYt
  isplitl [HzyR4]; · iexact HzyR4
  isplitl [HY4]; · iexact HY4
  isplitl [HzyR5]; · iexact HzyR5
  iexact HY5

abbrev part15 := k0_part15 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 15: chunks 6 and 7, the second half read, the result stored. -/
theorem part15_spec (v2 v7 : BitVec 32) (v295 : FVec F S1024x1024 .bf16) (v445 : FVec F S1024x512 .f32) {Kt} :
    iprop(records m ρ K ∗ levAts L lv ∗ due c 19 ∗ ready c (yR 6) ∗ ready c (yR 7) ∗ yF m ρ c 4 ∗ yF m ρ c 5 ∗ (∃ f, ((c : Thread nD τ).loc cc0_stg2_0) ↦{fullShare} f) ∗ ready c (xS 0)
        ∗ ((due c 19 ∗ semVal (kcell (c, yR 6)) 0 ∗ semVal (kcell (c, yR 7)) 0 ∗ yBot m ρ c ∗ (((c : Thread nD τ).loc cc0_stg2_0) ↦{fullShare} k0_pay21 v295 v445 (ybot m ρ c)) ∗ semVal (kcell (c, xS 0)) 0 ∗ sL m ρ c 0) -∗ Kt ⟨⟩))
      ⊢ runs c (part15 (F := F) c v2 v7 v295 v445) Kt := by
  unfold part15
  simp only [k0_part15_eq_skeleton]; unfold k0_part15_skel
  simp only [Prog.lift, Prog.bind_op, Prog.bind_ret, Prog.pure_eq_ret]
  iintro ⟨#HR, #Hlev, Ho, HryR6, HryR7, HY4, HY5, Hout0, HrxS0, Hk⟩
  iapply (wait_yR m ρ K c 6 19 (by decide)) $$ [HryR6 Ho]
  · isplitr; · iexact HR
    isplitr; · iexact Hlev
    isplitl [HryR6] <;> iassumption
  iintro ⟨Ho, HzyR6, HY6⟩
  iapply (wait_yR m ρ K c 7 19 (by decide)) $$ [HryR7 Ho]
  · isplitr; · iexact HR
    isplitr; · iexact Hlev
    isplitl [HryR7] <;> iassumption
  iintro ⟨Ho, HzyR7, HY7⟩
  ihave HYb := (bot_split m ρ c).2 $$ [HY4 HY5 HY6 HY7]
  · isplitl [HY4]; · iexact HY4
    isplitl [HY5]; · iexact HY5
    isplitl [HY6]; · iexact HY6
    iexact HY7
  iapply (wp_load 𝒱₀ (c : Thread nD τ) none Set.univ (m := yB) rU_sub) $$ HYb; iintro HYb
  rw [show yB.view.readAt (Elt F) rU.toLoadRect (YB m ρ c) = ybot m ρ c from rfl]
  icases Hout0 with ⟨%f, Hout⟩
  iapply (wp_load 𝒱₀ (c : Thread nD τ) none Set.univ (m := oA) (Finset.subset_univ _)) $$ Hout; iintro Hout
  iapply (wp_store 𝒱₀ (c : Thread nD τ) none Set.univ (m := oA) (r := rX) (Mk := Finset.univ) (Finset.subset_univ _)) $$ Hout; iintro Hout
  rw [show (oA.access rX : View sig .tc _ _ _).write (Elt F) f (k0_pay21 v295 v445 (ybot m ρ c)) Finset.univ = k0_pay21 v295 v445 (ybot m ρ c) from
    Memref.write_access_unit_zero_univ (Elt F) cc0_stg2_0 zero2 _ _ _]
  iapply (wait_xS m ρ K c 0 19 (by decide)) $$ [HrxS0 Ho]
  · isplitr; · iexact HR
    isplitr; · iexact Hlev
    isplitl [HrxS0] <;> iassumption
  iintro ⟨Ho, HzxS0, HS0⟩
  try unfold runs
  rw [wp_ret]; imodintro
  iapply Hk
  isplitl [Ho]; · iexact Ho
  isplitl [HzyR6]; · iexact HzyR6
  isplitl [HzyR7]; · iexact HzyR7
  isplitl [HYb]; · iexact HYb
  isplitl [Hout]; · iexact Hout
  isplitl [HzxS0]; · iexact HzxS0
  iexact HS0

abbrev part16 := k0_part16 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 16: the sends of chunks 0 to 2 have left. -/
theorem part16_spec {Kt} :
    iprop(records m ρ K ∗ levAts L lv ∗ due c 19 ∗ ready c (yS 0) ∗ ready c (xS 1) ∗ ready c (yS 1) ∗ ready c (xS 2) ∗ ready c (yS 2)
        ∗ ((due c 19 ∗ semVal (kcell (c, yS 0)) 0 ∗ xL m ρ c 0 ∗ semVal (kcell (c, xS 1)) 0 ∗ sL m ρ c 1 ∗ semVal (kcell (c, yS 1)) 0 ∗ xL m ρ c 1 ∗ semVal (kcell (c, xS 2)) 0 ∗ sL m ρ c 2 ∗ semVal (kcell (c, yS 2)) 0 ∗ xL m ρ c 2) -∗ Kt ⟨⟩))
      ⊢ runs c (part16 (F := F) c) Kt := by
  unfold part16
  simp only [k0_part16_eq_skeleton]; unfold k0_part16_skel
  simp only [Prog.lift, Prog.bind_op, Prog.bind_ret, Prog.pure_eq_ret]
  iintro ⟨#HR, #Hlev, Ho, HryS0, HrxS1, HryS1, HrxS2, HryS2, Hk⟩
  iapply (wait_yS m ρ K c 0 19 (by decide)) $$ [HryS0 Ho]
  · isplitr; · iexact HR
    isplitr; · iexact Hlev
    isplitl [HryS0] <;> iassumption
  iintro ⟨Ho, HzyS0, HL0⟩
  iapply (wait_xS m ρ K c 1 19 (by decide)) $$ [HrxS1 Ho]
  · isplitr; · iexact HR
    isplitr; · iexact Hlev
    isplitl [HrxS1] <;> iassumption
  iintro ⟨Ho, HzxS1, HS1⟩
  iapply (wait_yS m ρ K c 1 19 (by decide)) $$ [HryS1 Ho]
  · isplitr; · iexact HR
    isplitr; · iexact Hlev
    isplitl [HryS1] <;> iassumption
  iintro ⟨Ho, HzyS1, HL1⟩
  iapply (wait_xS m ρ K c 2 19 (by decide)) $$ [HrxS2 Ho]
  · isplitr; · iexact HR
    isplitr; · iexact Hlev
    isplitl [HrxS2] <;> iassumption
  iintro ⟨Ho, HzxS2, HS2⟩
  iapply (wait_yS m ρ K c 2 19 (by decide)) $$ [HryS2 Ho]
  · isplitr; · iexact HR
    isplitr; · iexact Hlev
    isplitl [HryS2] <;> iassumption
  iintro ⟨Ho, HzyS2, HL2⟩
  try unfold runs
  rw [wp_ret]; imodintro
  iapply Hk
  isplitl [Ho]; · iexact Ho
  isplitl [HzyS0]; · iexact HzyS0
  isplitl [HL0]; · iexact HL0
  isplitl [HzxS1]; · iexact HzxS1
  isplitl [HS1]; · iexact HS1
  isplitl [HzyS1]; · iexact HzyS1
  isplitl [HL1]; · iexact HL1
  isplitl [HzxS2]; · iexact HzxS2
  isplitl [HS2]; · iexact HS2
  isplitl [HzyS2]; · iexact HzyS2
  iexact HL2

abbrev part17 := k0_part17 (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8

/-- Part 17: the sends of chunks 3 to 5 have left. -/
theorem part17_spec {Kt} :
    iprop(records m ρ K ∗ levAts L lv ∗ due c 19 ∗ ready c (xS 3) ∗ ready c (yS 3) ∗ ready c (xS 4) ∗ ready c (yS 4) ∗ ready c (xS 5)
        ∗ ((due c 19 ∗ semVal (kcell (c, xS 3)) 0 ∗ sL m ρ c 3 ∗ semVal (kcell (c, yS 3)) 0 ∗ xL m ρ c 3 ∗ semVal (kcell (c, xS 4)) 0 ∗ sL m ρ c 4 ∗ semVal (kcell (c, yS 4)) 0 ∗ xL m ρ c 4 ∗ semVal (kcell (c, xS 5)) 0 ∗ sL m ρ c 5) -∗ Kt ⟨⟩))
      ⊢ runs c (part17 (F := F) c) Kt := by
  unfold part17
  simp only [k0_part17_eq_skeleton]; unfold k0_part17_skel
  simp only [Prog.lift, Prog.bind_op, Prog.bind_ret, Prog.pure_eq_ret]
  iintro ⟨#HR, #Hlev, Ho, HrxS3, HryS3, HrxS4, HryS4, HrxS5, Hk⟩
  iapply (wait_xS m ρ K c 3 19 (by decide)) $$ [HrxS3 Ho]
  · isplitr; · iexact HR
    isplitr; · iexact Hlev
    isplitl [HrxS3] <;> iassumption
  iintro ⟨Ho, HzxS3, HS3⟩
  iapply (wait_yS m ρ K c 3 19 (by decide)) $$ [HryS3 Ho]
  · isplitr; · iexact HR
    isplitr; · iexact Hlev
    isplitl [HryS3] <;> iassumption
  iintro ⟨Ho, HzyS3, HL3⟩
  iapply (wait_xS m ρ K c 4 19 (by decide)) $$ [HrxS4 Ho]
  · isplitr; · iexact HR
    isplitr; · iexact Hlev
    isplitl [HrxS4] <;> iassumption
  iintro ⟨Ho, HzxS4, HS4⟩
  iapply (wait_yS m ρ K c 4 19 (by decide)) $$ [HryS4 Ho]
  · isplitr; · iexact HR
    isplitr; · iexact Hlev
    isplitl [HryS4] <;> iassumption
  iintro ⟨Ho, HzyS4, HL4⟩
  iapply (wait_xS m ρ K c 5 19 (by decide)) $$ [HrxS5 Ho]
  · isplitr; · iexact HR
    isplitr; · iexact Hlev
    isplitl [HrxS5] <;> iassumption
  iintro ⟨Ho, HzxS5, HS5⟩
  try unfold runs
  rw [wp_ret]; imodintro
  iapply Hk
  isplitl [Ho]; · iexact Ho
  isplitl [HzxS3]; · iexact HzxS3
  isplitl [HS3]; · iexact HS3
  isplitl [HzyS3]; · iexact HzyS3
  isplitl [HL3]; · iexact HL3
  isplitl [HzxS4]; · iexact HzxS4
  isplitl [HS4]; · iexact HS4
  isplitl [HzyS4]; · iexact HzyS4
  isplitl [HL4]; · iexact HL4
  isplitl [HzxS5]; · iexact HzxS5
  iexact HS5

end Cert.Exchange
-- ==== Proof.Body4.lean ====
/-
# The kernel's whole body
-/
module

public import proofs.«01_k».proof.Proof.Body3

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- The kernel's result on device `c`: the rows it keeps and the rows it received, each put where it belongs by products with
    zero-one matrices, in the kernel's own operations. -/
def outAt (c : Dev nD) : FVec F S1024x512 .bf16 :=
  let v2 := xw c
  let v5 := yw c
  let it := iota .tc S1024x1024 32 [0] iota_S1024x1024_d0_w32
  let v132 := k0_pay2 v2 (dstg m ρ c)
  let v134 := k0_pay3 v2 (dstg m ρ (xp c))
  let v175 := k0_pay7 (k0_pay4 v2 (dstg m ρ c)) k0_pay5 (k0_pay6 v2 (dstg m ρ c))
  let v212 := k0_pay8 v134
  let v228 := k0_pay11 v2 v175 v212 k0_pay9
  let v237 := k0_pay12 v2 v5 v175 v212 k0_pay9
  let v243 := k0_pay13 v5 v134
  let v268 := k0_pay14 (F := F) it v132 v228
  let v295 := k0_pay16 (F := F) it v243 (k0_pay15 v237)
  let v333 := k0_pay17 v268 (sent m ρ c)
  let v409 := k0_pay19 v333 (k0_pay18 v295) (XB m ρ c)
  k0_pay21 v295 (k0_pay20 v295 v409 (ytop m ρ c)) (ybot m ρ c)

/-- The duties the device pays, -/
def payToks : sProp 𝕄 :=
  iprop((dutyTok ER (kcell (nb false c, bar)) 0 false ∗ dutyTok ER (kcell (nb true c, bar)) 0 true
      ∗ dutyTok ER (kcell (c, dS)) 0 false ∗ dutyTok ER (kcell (nb false c, dR)) 0 false)
    ∗ (bigSep Finset.univ fun k : Fin 8 => dutyTok ER (kcell (c, xS k)) 0 false)
    ∗ (bigSep Finset.univ fun k : Fin 8 => dutyTok ER (kcell (nb false c, xR k)) 0 false)
    ∗ (bigSep Finset.univ fun k : Fin 8 => dutyTok ER (kcell (c, yS k)) 0 false)
    ∗ (bigSep Finset.univ fun k : Fin 8 => dutyTok ER (kcell (nb true c, yR k)) 0 false))
/-- its positions at its own cells, -/
def places : sProp 𝕄 :=
  iprop((atPos ER (kcell (c, bar)) 0 ∅ 0 ∗ atPos ER (kcell (c, dS)) 0 ∅ 0 ∗ atPos ER (kcell (c, dR)) 0 ∅ 0)
    ∗ (bigSep Finset.univ fun k : Fin 8 => atPos ER (kcell (c, xS k)) 0 ∅ 0)
    ∗ (bigSep Finset.univ fun k : Fin 8 => atPos ER (kcell (c, xR k)) 0 ∅ 0)
    ∗ (bigSep Finset.univ fun k : Fin 8 => atPos ER (kcell (c, yS k)) 0 ∅ 0)
    ∗ (bigSep Finset.univ fun k : Fin 8 => atPos ER (kcell (c, yR k)) 0 ∅ 0))
/-- the credits of the cells others raise, -/
def purse : sProp 𝕄 :=
  iprop(cred (tallyAt (kcell (c, bar)) () 2) ∗ cred (tallyAt (kcell (c, dR)) () (amt dR))
    ∗ (bigSep Finset.univ fun k : Fin 8 => cred (tallyAt (kcell (c, xR k)) () (amt (xR k))))
    ∗ (bigSep Finset.univ fun k : Fin 8 => cred (tallyAt (kcell (c, yR k)) () (amt (yR k)))))
/-- its four scratch buffers, holding anything, -/
def scr : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))
/-- and, afterwards, its own cells at zero. -/
def zeros : sProp 𝕄 :=
  iprop((semVal (kcell (c, bar)) 0 ∗ semVal (kcell (c, dS)) 0 ∗ semVal (kcell (c, dR)) 0)
    ∗ (bigSep Finset.univ fun k : Fin 8 => semVal (kcell (c, xS k)) 0)
    ∗ (bigSep Finset.univ fun k : Fin 8 => semVal (kcell (c, xR k)) 0)
    ∗ (bigSep Finset.univ fun k : Fin 8 => semVal (kcell (c, yS k)) 0)
    ∗ (bigSep Finset.univ fun k : Fin 8 => semVal (kcell (c, yR k)) 0))

/-- What the eight x transfers need. -/
theorem xPre_all :
    iprop((bigSep Finset.univ fun k : Fin 8 => dutyTok ER (kcell (c, xS k)) 0 false)
        ∗ (bigSep Finset.univ fun k : Fin 8 => dutyTok ER (kcell (nb false c, xR k)) 0 false)
        ∗ (bigSep Finset.univ fun k : Fin 8 => atPos ER (kcell (c, xS k)) 0 ∅ 0)
        ∗ ∃ f, ((nb false c : Thread nD τ).loc cc0_scratch1) ↦{fullShare} f)
      ⊢ (bigSep Finset.univ fun k : Fin 8 => xPre (F := F) c k : sProp 𝕄) := by
  unfold xPre
  rw [bigSep_sep', bigSep_sep', bigSep_sep']
  refine sep_mono_right (sep_mono_right (sep_mono_right ?_))
  iintro ⟨%f, H⟩
  ihave H := (Entails.of_eq (xbuf_chunks (F := F) (nb false c) fullShare f)) $$ H
  have h : (bigSep Finset.univ fun k : Fin 8 => (((nb false c : Thread nD τ).loc cc0_scratch1) ↦[(chR k).set]{fullShare} f : sProp 𝕄))
      ⊢ bigSep Finset.univ fun k : Fin 8 => iprop(∃ f, ((nb false c : Thread nD τ).loc cc0_scratch1) ↦[(chR k).set]{fullShare} f) :=
    bigSep_mono fun k _ => by
      show (((nb false c : Thread nD τ).loc cc0_scratch1) ↦[(chR k).set]{fullShare} f : sProp 𝕄)
        ⊢ iprop(∃ f, ((nb false c : Thread nD τ).loc cc0_scratch1) ↦[(chR k).set]{fullShare} f)
      iintro H; iexists f; iexact H
  iapply h $$ H
/-- What the eight y transfers need. -/
theorem yPre_all :
    iprop((bigSep Finset.univ fun k : Fin 8 => dutyTok ER (kcell (c, yS k)) 0 false)
        ∗ (bigSep Finset.univ fun k : Fin 8 => dutyTok ER (kcell (nb true c, yR k)) 0 false)
        ∗ (bigSep Finset.univ fun k : Fin 8 => atPos ER (kcell (c, yS k)) 0 ∅ 0)
        ∗ ∃ f, ((nb true c : Thread nD τ).loc cc0_scratch2) ↦{fullShare} f)
      ⊢ (bigSep Finset.univ fun k : Fin 8 => yPre (F := F) c k : sProp 𝕄) := by
  unfold yPre
  rw [bigSep_sep', bigSep_sep', bigSep_sep']
  refine sep_mono_right (sep_mono_right (sep_mono_right ?_))
  iintro ⟨%f, H⟩
  ihave H := (Entails.of_eq (ybuf_chunks (F := F) (nb true c) fullShare f)) $$ H
  have h : (bigSep Finset.univ fun k : Fin 8 => (((nb true c : Thread nD τ).loc cc0_scratch2) ↦[(chR k).set]{fullShare} f : sProp 𝕄))
      ⊢ bigSep Finset.univ fun k : Fin 8 => iprop(∃ f, ((nb true c : Thread nD τ).loc cc0_scratch2) ↦[(chR k).set]{fullShare} f) :=
    bigSep_mono fun k _ => by
      show (((nb true c : Thread nD τ).loc cc0_scratch2) ↦[(chR k).set]{fullShare} f : sProp 𝕄)
        ⊢ iprop(∃ f, ((nb true c : Thread nD τ).loc cc0_scratch2) ↦[(chR k).set]{fullShare} f)
      iintro H; iexists f; iexact H
  iapply h $$ H
/-- The rights to wait for eight cells. -/
theorem ready_all (f : Fin 8 → CI) :
    iprop((bigSep Finset.univ fun k : Fin 8 => cred (tallyAt (kcell (c, f k)) () (amt (f k)))) ∗ (bigSep Finset.univ fun k : Fin 8 => atPos ER (kcell (c, f k)) 0 ∅ 0))
      = (bigSep Finset.univ fun k : Fin 8 => ready (F := F) c (f k) : sProp 𝕄) := by
  unfold ready; rw [bigSep_sep']

/-- The x landing buffer whole again. -/
theorem xbuf_join :
    iprop((xL m ρ c 0 ∗ xL m ρ c 1 ∗ xL m ρ c 2 ∗ xL m ρ c 3 ∗ xL m ρ c 4 ∗ xL m ρ c 5 ∗ xL m ρ c 6 ∗ xL m ρ c 7) ∗ xTT m ρ c)
      ⊢ (((c : Thread nD τ).loc cc0_scratch1) ↦{fullShare} XB m ρ c : sProp 𝕄) := by
  rw [← eight (fun k => xL m ρ c k), ← xbuf_chunks (F := F) c LSh (XB m ρ c)]
  exact (pointsTo_share (Val := Elt F) (Ix := Unit) (Name := ℕ) (U := UU) (Lvl := ℕ) (ℓ := (c : Thread nD τ).loc cc0_scratch1) (I := Finset.univ)
    (f := XB m ρ c) (PosShare.mem_left_op_right fullShare)).2
/-- The y landing buffer whole again. -/
theorem ybuf_join : iprop(yTop m ρ c ∗ yBot m ρ c) ⊢ (((c : Thread nD τ).loc cc0_scratch2) ↦{fullShare} YB m ρ c : sProp 𝕄) := by
  rw [ybuf_chunks (F := F) c fullShare (YB m ρ c), eight]
  refine ((sep_mono_left (top_split m ρ c).1).trans (sep_mono_right (bot_split m ρ c).1)).trans ?_
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- One piece of a program and then the rest. -/
theorem runs_bind {α β : Type} (p : Prog (TpuEff nD τ sig (Elt F) Λ₀ .tc) α) (k : α → Prog (TpuEff nD τ sig (Elt F) Λ₀ .tc) β) (Q : β → sProp 𝕄) :
    runs c (p >>= k) Q = runs c p (fun a => runs c (k a) Q) := wp_bind ..

/-- The body: from the duties, positions, credits and buffers of a device to its result, everything it lent back and its
    cells at zero. -/
theorem whole_body {Kt : PUnit → sProp 𝕄} :
    iprop(records m ρ K ∗ levAts L lv ∗ payToks (F := F) c ∗ places (F := F) c ∗ purse (F := F) c ∗ scr (F := F) c ∗ due c 0
        ∗ (((c : Thread nD τ).loc cc0_stg0_0) ↦{fullShare} xstg m ρ c)
        ∗ (((c : Thread nD τ).loc cc0_stg1_0) ↦{fullShare} dstg m ρ c)
        ∗ (∃ f, ((c : Thread nD τ).loc cc0_stg2_0) ↦{fullShare} f)
        ∗ ((zeros (F := F) c ∗ scr (F := F) c ∗ due c 19
            ∗ (((c : Thread nD τ).loc cc0_stg0_0) ↦{fullShare} xstg m ρ c)
            ∗ (((c : Thread nD τ).loc cc0_stg1_0) ↦{fullShare} dstg m ρ c)
            ∗ (((c : Thread nD τ).loc cc0_stg2_0) ↦{fullShare} outAt m ρ c)) -∗ Kt ⟨⟩))
      ⊢ runs c (cc0_body (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8) Kt := by
  simp only [cc0_body_eq_skeleton]; unfold cc0_body_skel
  simp only [k0_part18_eq_skeleton]; unfold k0_part18_skel
  simp only [Prog.lift, Prog.bind_op, Prog.bind_ret, Prog.pure_eq_ret, bind_assoc]
  unfold payToks places purse scr zeros
  iintro ⟨#HR, #Hlev, ⟨⟨HtbX, HtbY, HtdS, HtdR⟩, HtxS, HtxR, HtyS, HtyR⟩, ⟨⟨Hpb, HpdS, HpdR⟩, HpxS, HpxR, HpyS, HpyR⟩, ⟨Hcb, HcdR, HcxR, HcyR⟩,
    ⟨⟨%f0, Hs⟩, Hs1, Hs2, Hs3⟩, Ho, Hx, Hd, Hout0, Hk⟩
  rw [runs_bind]
  iapply (part1_spec m ρ K c f0)
  isplitr; · iexact HR
  isplitr; · iexact Hlev
  isplitl [HtbX HtbY Hcb Hpb Hs1 Hs2 Hs3]
  · unfold shake
    isplitl [HtbX]; · iexact HtbX
    isplitl [HtbY]; · iexact HtbY
    isplitl [Hcb]; · iexact Hcb
    isplitl [Hpb]; · iexact Hpb
    isplitl [Hs1]; · iexact Hs1
    isplitl [Hs2] <;> iassumption
  isplitl [HtdS HtdR HpdS]
  · unfold dTok
    isplitl [HtdS]; · iexact HtdS
    isplitl [HtdR] <;> iassumption
  isplitl [Ho]; · iexact Ho
  isplitl [Hx]; · iexact Hx
  isplitl [Hd]; · iexact Hd
  isplitl [Hs]; · iexact Hs
  iintro ⟨Hzb, HrdS, Ho, Hx, Hs, Hn1, Hn2⟩
  try dsimp only
  ihave Hp := (xPre_all (F := F) c) $$ [HtxS HtxR HpxS Hn1]
  · isplitl [HtxS]; · iexact HtxS
    isplitl [HtxR]; · iexact HtxR
    isplitl [HpxS] <;> iassumption
  ihave Hp := (Entails.of_eq (eight (fun k => xPre (F := F) c k))) $$ Hp
  icases Hp with ⟨Hq0, Hq1, Hq2, Hq3, Hq4, Hq5, Hq6, Hq7⟩
  ihave Hp := (yPre_all (F := F) c) $$ [HtyS HtyR HpyS Hn2]
  · isplitl [HtyS]; · iexact HtyS
    isplitl [HtyR]; · iexact HtyR
    isplitl [HpyS] <;> iassumption
  ihave Hp := (Entails.of_eq (eight (fun k => yPre (F := F) c k))) $$ Hp
  icases Hp with ⟨Hp0, Hp1, Hp2, Hp3, Hp4, Hp5, Hp6, Hp7⟩
  ihave Hp := (Entails.of_eq ((ready_all (F := F) c xR).trans (eight (fun k => ready (F := F) c (xR k))))) $$ [HcxR HpxR]
  · isplitl [HcxR] <;> iassumption
  icases Hp with ⟨HrxR0, HrxR1, HrxR2, HrxR3, HrxR4, HrxR5, HrxR6, HrxR7⟩
  ihave Hp := (Entails.of_eq ((ready_all (F := F) c yR).trans (eight (fun k => ready (F := F) c (yR k))))) $$ [HcyR HpyR]
  · isplitl [HcyR] <;> iassumption
  icases Hp with ⟨HryR0, HryR1, HryR2, HryR3, HryR4, HryR5, HryR6, HryR7⟩
  ihave HrdR := (show iprop(cred (tallyAt (kcell (c, dR)) () (amt dR)) ∗ atPos ER (kcell (c, dR)) 0 ∅ 0) ⊢ ready (F := F) c dR from Entails.refl _) $$ [HcdR HpdR]
  · isplitl [HcdR] <;> iassumption
  rw [runs_bind]
  iapply (part2_spec m ρ K c _ _ f0)
  isplitr; · iexact HR
  isplitl [Ho]; · iexact Ho
  isplitl [Hs]; · iexact Hs
  isplitl [Hq0]; · iexact Hq0
  isplitl [Hq1]; · iexact Hq1
  iintro ⟨Ho, ⟨HrxS0, HrxS1⟩, ⟨HS2, HS3, HS4, HS5, HS6, HS7⟩, Hrest, HR2⟩
  try dsimp only
  rw [runs_bind]
  iapply (part3_spec m ρ K c _ _ _)
  isplitr; · iexact HR
  isplitl [Ho]; · iexact Ho
  isplitl [HS2 Hq2]; · isplitl [HS2] <;> iassumption
  isplitl [HS3 Hq3]; · isplitl [HS3] <;> iassumption
  isplitl [HS4 Hq4]; · isplitl [HS4] <;> iassumption
  iintro ⟨Ho, HrxS2, HrxS3, HrxS4⟩
  try dsimp only
  rw [runs_bind]
  iapply (part4_spec m ρ K c _ _ _)
  isplitr; · iexact HR
  isplitr; · iexact Hlev
  isplitl [Ho]; · iexact Ho
  isplitl [HS5 Hq5]; · isplitl [HS5] <;> iassumption
  isplitl [HS6 Hq6]; · isplitl [HS6] <;> iassumption
  isplitl [HS7 Hq7]; · isplitl [HS7] <;> iassumption
  isplitl [HrdS]; · iexact HrdS
  iintro ⟨Ho, ⟨HrxS5, HrxS6, HrxS7⟩, HzdS, Hd⟩
  try dsimp only
  rw [runs_bind]
  iapply (part5_spec m ρ K c _ _ _)
  isplitr; · iexact HR
  isplitr; · iexact Hlev
  isplitl [Ho]; · iexact Ho
  isplitl [HrdR]; · iexact HrdR
  isplitl [Hd]; · iexact Hd
  iintro ⟨Ho, HzdR, Hd, Hd3⟩
  try dsimp only
  rw [runs_bind]
  iapply (part6_spec m ρ K c _ _ _ _)
  isplitr; · iexact HR
  isplitl [Ho]; · iexact Ho
  iintro Ho
  try dsimp only
  rw [runs_bind]
  iapply (part7_spec m ρ K c _ _ _ _ _ _ _)
  isplitr; · iexact HR
  isplitr; · iexact Hlev
  isplitl [Ho]; · iexact Ho
  isplitl [HrxR0]; · iexact HrxR0
  iintro ⟨Ho, HzxR0, HL0, HT0⟩
  try dsimp only
  rw [runs_bind]
  iapply (part8_spec m ρ K c _ _ _ _ _ _ _ _ _ _)
  isplitr; · iexact HR
  isplitr; · iexact Hlev
  isplitl [Ho]; · iexact Ho
  isplitl [HL0]; · iexact HL0
  isplitl [Hp0]; · iexact Hp0
  isplitl [HrxR1]; · iexact HrxR1
  isplitl [Hp1]; · iexact Hp1
  iintro ⟨Ho, HryS0, HzxR1, HT1, HryS1⟩
  try dsimp only
  rw [runs_bind]
  iapply (part9_spec m ρ K c _ _ _ _ _ _ _)
  isplitr; · iexact HR
  isplitr; · iexact Hlev
  isplitl [Ho]; · iexact Ho
  isplitl [HrxR2]; · iexact HrxR2
  isplitl [Hp2]; · iexact Hp2
  iintro ⟨Ho, HzxR2, HT2, HryS2⟩
  try dsimp only
  rw [runs_bind]
  iapply (part10_spec m ρ K c _ _ _ _ _)
  isplitr; · iexact HR
  isplitr; · iexact Hlev
  isplitl [Ho]; · iexact Ho
  isplitl [HrxR3]; · iexact HrxR3
  isplitl [Hp3]; · iexact Hp3
  isplitl [HR2]; · iexact HR2
  isplitl [HrxR4]; · iexact HrxR4
  iintro ⟨Ho, HzxR3, HT3, HryS3, HR2, HzxR4, HL4, HT4⟩
  try dsimp only
  rw [runs_bind]
  iapply (part11_spec m ρ K c _ _ _ _)
  isplitr; · iexact HR
  isplitr; · iexact Hlev
  isplitl [Ho]; · iexact Ho
  isplitl [HL4]; · iexact HL4
  isplitl [Hp4]; · iexact Hp4
  isplitl [HrxR5]; · iexact HrxR5
  isplitl [Hp5]; · iexact Hp5
  isplitl [HrxR6]; · iexact HrxR6
  iintro ⟨Ho, HryS4, HzxR5, HT5, HryS5, HzxR6, HL6, HT6⟩
  try dsimp only
  rw [runs_bind]
  iapply (part12_spec m ρ K c _ _ _ _ _)
  isplitr; · iexact HR
  isplitr; · iexact Hlev
  isplitl [Ho]; · iexact Ho
  isplitl [HL6]; · iexact HL6
  isplitl [Hp6]; · iexact Hp6
  isplitl [HrxR7]; · iexact HrxR7
  isplitl [Hp7]; · iexact Hp7
  isplitl [HT0]; · iexact HT0
  isplitl [HT1]; · iexact HT1
  isplitl [HT2]; · iexact HT2
  isplitl [HT3]; · iexact HT3
  isplitl [HT4]; · iexact HT4
  isplitl [HT5]; · iexact HT5
  isplitl [HT6]; · iexact HT6
  iintro ⟨Ho, HryS6, HzxR7, HryS7, HTT⟩
  try dsimp only
  rw [runs_bind]
  iapply (part13_spec m ρ K c _ _ _ _ _)
  isplitr; · iexact HR
  isplitr; · iexact Hlev
  isplitl [Ho]; · iexact Ho
  isplitl [HryR0]; · iexact HryR0
  isplitl [HryR1]; · iexact HryR1
  isplitl [HryR2]; · iexact HryR2
  iintro ⟨Ho, HzyR0, HY0, HzyR1, HY1, HzyR2, HY2⟩
  try dsimp only
  rw [runs_bind]
  iapply (part14_spec m ρ K c _ _ _ _ _)
  isplitr; · iexact HR
  isplitr; · iexact Hlev
  isplitl [Ho]; · iexact Ho
  isplitl [HryR3]; · iexact HryR3
  isplitl [HY0]; · iexact HY0
  isplitl [HY1]; · iexact HY1
  isplitl [HY2]; · iexact HY2
  isplitl [HryR4]; · iexact HryR4
  isplitl [HryR5]; · iexact HryR5
  iintro ⟨Ho, HzyR3, HYt, HzyR4, HY4, HzyR5, HY5⟩
  try dsimp only
  rw [runs_bind]
  iapply (part15_spec m ρ K c _ _ _ _)
  isplitr; · iexact HR
  isplitr; · iexact Hlev
  isplitl [Ho]; · iexact Ho
  isplitl [HryR6]; · iexact HryR6
  isplitl [HryR7]; · iexact HryR7
  isplitl [HY4]; · iexact HY4
  isplitl [HY5]; · iexact HY5
  isplitl [Hout0]; · iexact Hout0
  isplitl [HrxS0]; · iexact HrxS0
  iintro ⟨Ho, HzyR6, HzyR7, HYb, Hout, HzxS0, HS0⟩
  try dsimp only
  rw [runs_bind]
  iapply (part16_spec m ρ K c)
  isplitr; · iexact HR
  isplitr; · iexact Hlev
  isplitl [Ho]; · iexact Ho
  isplitl [HryS0]; · iexact HryS0
  isplitl [HrxS1]; · iexact HrxS1
  isplitl [HryS1]; · iexact HryS1
  isplitl [HrxS2]; · iexact HrxS2
  isplitl [HryS2]; · iexact HryS2
  iintro ⟨Ho, HzyS0, HL0, HzxS1, HS1, HzyS1, HL1, HzxS2, HS2, HzyS2, HL2⟩
  try dsimp only
  rw [runs_bind]
  iapply (part17_spec m ρ K c)
  isplitr; · iexact HR
  isplitr; · iexact Hlev
  isplitl [Ho]; · iexact Ho
  isplitl [HrxS3]; · iexact HrxS3
  isplitl [HryS3]; · iexact HryS3
  isplitl [HrxS4]; · iexact HrxS4
  isplitl [HryS4]; · iexact HryS4
  isplitl [HrxS5]; · iexact HrxS5
  iintro ⟨Ho, HzxS3, HS3, HzyS3, HL3, HzxS4, HS4, HzyS4, HL4, HzxS5, HS5⟩
  try dsimp only
  iapply (wait_yS m ρ K c 5 19 (by decide)) $$ [HryS5 Ho]
  · isplitr; · iexact HR
    isplitr; · iexact Hlev
    isplitl [HryS5] <;> iassumption
  iintro ⟨Ho, HzyS5, HL5⟩
  iapply (wait_xS m ρ K c 6 19 (by decide)) $$ [HrxS6 Ho]
  · isplitr; · iexact HR
    isplitr; · iexact Hlev
    isplitl [HrxS6] <;> iassumption
  iintro ⟨Ho, HzxS6, HS6⟩
  iapply (wait_yS m ρ K c 6 19 (by decide)) $$ [HryS6 Ho]
  · isplitr; · iexact HR
    isplitr; · iexact Hlev
    isplitl [HryS6] <;> iassumption
  iintro ⟨Ho, HzyS6, HL6⟩
  iapply (wait_xS m ρ K c 7 19 (by decide)) $$ [HrxS7 Ho]
  · isplitr; · iexact HR
    isplitr; · iexact Hlev
    isplitl [HrxS7] <;> iassumption
  iintro ⟨Ho, HzxS7, HS7⟩
  iapply (wait_yS m ρ K c 7 19 (by decide)) $$ [HryS7 Ho]
  · isplitr; · iexact HR
    isplitr; · iexact Hlev
    isplitl [HryS7] <;> iassumption
  iintro ⟨Ho, HzyS7, HL7⟩
  ihave Hs0 := (sbuf_split m ρ c).2 $$ [HS0 HS1 HS2 HS3 HS4 HS5 HS6 HS7 Hrest HR2]
  · isplitl [HS0 HS1 HS2 HS3 HS4 HS5 HS6 HS7 Hrest]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hrest
    iexact HR2
  ihave Hs1 := (xbuf_join m ρ c) $$ [HL0 HL1 HL2 HL3 HL4 HL5 HL6 HL7 HTT]
  · isplitl [HL0 HL1 HL2 HL3 HL4 HL5 HL6 HL7]
    · isplitl [HL0]; · iexact HL0
      isplitl [HL1]; · iexact HL1
      isplitl [HL2]; · iexact HL2
      isplitl [HL3]; · iexact HL3
      isplitl [HL4]; · iexact HL4
      isplitl [HL5]; · iexact HL5
      isplitl [HL6]; · iexact HL6
      iexact HL7
    iexact HTT
  ihave Hs2 := (ybuf_join m ρ c) $$ [HYt HYb]
  · isplitl [HYt] <;> iassumption
  try unfold runs
  rw [wp_ret]; imodintro
  iapply Hk
  isplitl [Hzb HzdS HzdR HzxS0 HzxS1 HzxS2 HzxS3 HzxS4 HzxS5 HzxS6 HzxS7 HzxR0 HzxR1 HzxR2 HzxR3 HzxR4 HzxR5 HzxR6 HzxR7 HzyS0 HzyS1 HzyS2 HzyS3 HzyS4 HzyS5 HzyS6 HzyS7 HzyR0 HzyR1 HzyR2 HzyR3 HzyR4 HzyR5 HzyR6 HzyR7]
  · isplitl [Hzb HzdS HzdR]
    · isplitl [Hzb]; · iexact Hzb
      isplitl [HzdS] <;> iassumption
    isplitl [HzxS0 HzxS1 HzxS2 HzxS3 HzxS4 HzxS5 HzxS6 HzxS7]
    · rw [eight]
      isplitl [HzxS0]; · iexact HzxS0
      isplitl [HzxS1]; · iexact HzxS1
      isplitl [HzxS2]; · iexact HzxS2
      isplitl [HzxS3]; · iexact HzxS3
      isplitl [HzxS4]; · iexact HzxS4
      isplitl [HzxS5]; · iexact HzxS5
      isplitl [HzxS6]; · iexact HzxS6
      iexact HzxS7
    isplitl [HzxR0 HzxR1 HzxR2 HzxR3 HzxR4 HzxR5 HzxR6 HzxR7]
    · rw [eight]
      isplitl [HzxR0]; · iexact HzxR0
      isplitl [HzxR1]; · iexact HzxR1
      isplitl [HzxR2]; · iexact HzxR2
      isplitl [HzxR3]; · iexact HzxR3
      isplitl [HzxR4]; · iexact HzxR4
      isplitl [HzxR5]; · iexact HzxR5
      isplitl [HzxR6]; · iexact HzxR6
      iexact HzxR7
    isplitl [HzyS0 HzyS1 HzyS2 HzyS3 HzyS4 HzyS5 HzyS6 HzyS7]
    · rw [eight]
      isplitl [HzyS0]; · iexact HzyS0
      isplitl [HzyS1]; · iexact HzyS1
      isplitl [HzyS2]; · iexact HzyS2
      isplitl [HzyS3]; · iexact HzyS3
      isplitl [HzyS4]; · iexact HzyS4
      isplitl [HzyS5]; · iexact HzyS5
      isplitl [HzyS6]; · iexact HzyS6
      iexact HzyS7
    rw [eight]
    isplitl [HzyR0]; · iexact HzyR0
    isplitl [HzyR1]; · iexact HzyR1
    isplitl [HzyR2]; · iexact HzyR2
    isplitl [HzyR3]; · iexact HzyR3
    isplitl [HzyR4]; · iexact HzyR4
    isplitl [HzyR5]; · iexact HzyR5
    isplitl [HzyR6]; · iexact HzyR6
    iexact HzyR7
  isplitl [Hs0 Hs1 Hs2 Hd3]
  · isplitl [Hs0]; · iexists _; iexact Hs0
    isplitl [Hs1]; · iexists _; iexact Hs1
    isplitl [Hs2]; · iexists _; iexact Hs2
    iexists _; iexact Hd3
  isplitl [Ho]; · iexact Ho
  isplitl [Hx]; · iexact Hx
  isplitl [Hd]; · iexact Hd
  iexact Hout

end Cert.Exchange
-- ==== Proof.Run.lean ====
/-
# The launch and the run
-/
module

public import proofs.«01_k».proof.Proof.Body4
public import Idealize.ShloMosaic.Lib.Pipeline.CollectiveSegs
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The kernel's own semaphores: all of `csem` but the barrier's. -/
def osem (i : Fin 2 ⊕ Fin 4 × Fin 8) : SemLoc sig := csem (i.map (fun k => (k.succ : Fin 3)) id)

/-- What a device's ghost state is at some names: the records, the duties it pays, its positions. -/
def dealt (c : Dev nD) : sProp 𝕄 := iprop(∃ K, records m ρ K ∗ payToks (F := F) c ∗ places (F := F) c)
/-- What its body starts from besides its scratch buffers. -/
def start (c : Dev nD) : sProp 𝕄 := iprop(dealt m ρ c ∗ purse (F := F) c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dstg m ρ c
    | ⟨2, _⟩ => outAt m ρ c
  Φ t := match t with
    | ⟨0, _⟩ => iprop(start m ρ c ∗ scr (F := F) c)
    | ⟨_ + 1, _⟩ => iprop(zeros (F := F) c ∗ scr (F := F) c)
  q _ := fullShare
  owed t := match t with
    | ⟨0, _⟩ => debt c 0
    | ⟨_ + 1, _⟩ => 0

theorem fin_N (t : Fin cfg0.N) : t = t0_0 := fin_N0 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A buffer holding `X`, as the pipeline states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop((start m ρ c ∗ scr (F := F) c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 4000 in
def bodyPost (c : Dev nD) : sProp 𝕄 :=
  iprop((zeros (F := F) c ∗ scr (F := F) c) ∗ (dats m ρ 0 c).owesAt () t0_0.succ
    ∗ stg c cc0_stg0_0 (xstg m ρ c) ∗ stg c cc0_stg1_0 (dstg m ρ c) ∗ stg c cc0_stg2_0 (outAt m ρ c))

set_option maxRecDepth 4000 in
theorem sound_body (c : Dev nD) :
    bodyPre m ρ c ⊢ runs c (cc0_body (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8) (fun _ => bodyPost m ρ c) := by
  unfold bodyPre start dealt
  iintro ⟨⟨⟨⟨%K, #HR, Htok, Hpl⟩, Hpu, #Hlev⟩, Hscr⟩, Ho, ⟨%d0, %g0, %hg0, Hx⟩, ⟨%d1, %g1, %hg1, Hd⟩, ⟨%d2, %g2, %hg2, Hout⟩⟩
  have hx : g0 = xstg m ρ c := by rw [hg0]; unfold Dat.before; rw [if_pos (fetch0_0 t0_0)]; rfl
  have hd : g1 = dstg m ρ c := by rw [hg1]; unfold Dat.before; rw [if_pos (fetch0_1 t0_0)]; rfl
  subst hx hd
  iapply (whole_body m ρ K c)
  isplitr; · iexact HR
  isplitr; · iexact Hlev
  isplitl [Htok]; · iexact Htok
  isplitl [Hpl]; · iexact Hpl
  isplitl [Hpu]; · iexact Hpu
  isplitl [Hscr]; · iexact Hscr
  isplitl [Ho]
  · unfold Dat.owesAt Pipeline.owesWithin due
    icases Ho with ⟨%W, %hW, HO⟩
    rw [show (dats m ρ 0 c).owed t0_0.castSucc = debt c 0 from rfl]
    iexists W; iexact HO
  isplitl [Hx]; · iexact Hx
  isplitl [Hd]; · iexact Hd
  isplitl [Hout]; · iexists g2; iexact Hout
  iintro ⟨Hz, Hscr, Ho, Hx, Hd, Hout⟩
  unfold bodyPost
  isplitl [Hz Hscr]; · isplitl [Hz] <;> iassumption
  isplitl [Ho]
  · unfold Dat.owesAt Pipeline.owesWithin due
    icases Ho with ⟨%W, HO⟩
    rw [show (dats m ρ 0 c).owed t0_0.succ = debt c 19 from rfl]
    iexists W
    isplitr; · ipureintro; exact fun _ _ => Or.inl trivial
    iexact HO
  isplitl [Hx]
  · iexists _; isplitr; · (ipureintro; rfl)
    iexact Hx
  isplitl [Hd]
  · iexists _; isplitr; · (ipureintro; rfl)
    iexact Hd
  iexists _; isplitr; · (ipureintro; rfl)
  iexact Hout

set_option maxRecDepth 20000 in
/-- The library's body obligation on device `c`. -/
theorem body_obligation (c : Dev nD) : BodyObligation (dats (F := F) m ρ 0 c) (defs₀ (F := F)) 𝒱₀ () Set.univ := fun t => by
  rw [fin_N t]
  rw [show (∀ Φ : Fin cfg0.W → sProp 𝕄, bigSep Finset.univ Φ = iprop(Φ (0 : Fin 3) ∗ Φ (1 : Fin 3) ∗ Φ (2 : Fin 3))) from bigSep_W0]
  rw [show (∀ Φ : Fin cfg0.W → sProp 𝕄, bigSep Finset.univ Φ = iprop(Φ (0 : Fin 3) ∗ Φ (1 : Fin 3) ∗ Φ (2 : Fin 3))) from bigSep_W0]
  simp only [owns_whole_eq]
  show bodyPre m ρ c ⊢ runs c (cc0_body (F := F) xA (Memref.isWhole_whole _) dA (Memref.isWhole_whole _) oA (Memref.isWhole_whole _) sA (Memref.isWhole_whole _)
  xB (Memref.isWhole_whole _) yB (Memref.isWhole_whole _) dB (Memref.isWhole_whole _) cc0_scratch4 cc0_scratch5 cc0_scratch6 cc0_scratch7 cc0_scratch8) (fun _ => bodyPost m ρ c)
  exact sound_body m ρ c

/-! ## The ghost state at launch -/

set_option maxRecDepth 4000 in
theorem ownSemFacts : Pipeline.OwnSemFacts cfg0.spec osem := by decide

theorem share_eq (c : Dev nD) (w : Fin cfg0.W) : (dats m ρ 0 c).share w = fullShare := by unfold Dat.share; split <;> rfl

/-- The cells of the exchange, -/
def allCells : Finset (GSem nD τ sig) := Finset.univ.map ⟨kcell, kcell_inj⟩
/-- and their duties: each cell's `false`, and the barriers' `true`. -/
def tokOf (p : Dev nD × (CI ⊕ Unit)) : GSem nD τ sig × ℕ × Bool :=
  p.2.elim (fun i => (kcell (p.1, i), 0, false)) (fun _ => (kcell (p.1, bar), 0, true))
theorem tokOf_inj : Function.Injective tokOf := by
  rintro ⟨c, i | u⟩ ⟨c', i' | u'⟩ h
  · have h' := kcell_inj (congrArg Prod.fst h)
    rw [show c = c' from congrArg Prod.fst h', show i = i' from congrArg Prod.snd h']
  · exact absurd (show false = true from congrArg (fun x => x.2.2) h) Bool.false_ne_true
  · exact absurd (show true = false from congrArg (fun x => x.2.2) h) (fun q => Bool.false_ne_true q.symm)
  · have h' := kcell_inj (congrArg Prod.fst h)
    rw [show c = c' from congrArg Prod.fst h']
def allToks : Finset (GSem nD τ sig × ℕ × Bool) := Finset.univ.map ⟨tokOf, tokOf_inj⟩

def u₀ : UU := (initOf (Pipeline.cells cfgs cellOf_inj) (Pipeline.launchToks cfgs cellOf_inj), initOf allCells allToks)

theorem three (Φ : Fin 3 → sProp 𝕄) : bigSep Finset.univ Φ = iprop(Φ 0 ∗ Φ 1 ∗ Φ 2) := bigSep_univ_eq_bigSepL [0, 1, 2] (by decide) (by decide) Φ
theorem fourth (Φ : Fin 4 → sProp 𝕄) : bigSep Finset.univ Φ = iprop(Φ 0 ∗ Φ 1 ∗ Φ 2 ∗ Φ 3) := bigSep_univ_eq_bigSepL [0, 1, 2, 3] (by decide) (by decide) Φ
/-- Something for every cell of a device, by kinds. -/
theorem over_cells (Φ : CI → sProp 𝕄) :
    bigSep Finset.univ Φ = iprop((Φ bar ∗ Φ dS ∗ Φ dR) ∗ (bigSep Finset.univ fun k => Φ (xS k)) ∗ (bigSep Finset.univ fun k => Φ (xR k))
      ∗ (bigSep Finset.univ fun k => Φ (yS k)) ∗ (bigSep Finset.univ fun k => Φ (yR k))) := by
  rw [bigSep_univ_sum, three, bigSep_univ_prod, fourth]; rfl

/-- The duties of device `c`'s own cells. -/
def ownToks (c : Dev nD) : sProp 𝕄 :=
  iprop((bigSep Finset.univ fun i : CI => dutyTok ER (kcell (c, i)) 0 false) ∗ dutyTok ER (kcell (c, bar)) 0 true)

/-- What the launch deals device `c`. -/
def G (c : Dev nD) : sProp 𝕄 :=
  iprop((bigSep Finset.univ fun i : CI => roundState ER (Rd m ρ) (kcell (c, i)) 0)
    ∗ (bigSep Finset.univ fun i : CI => iprop(atPos ER (kcell (c, i)) 0 ∅ 0 ∗ reached ER (kcell (c, i)) 0)) ∗ ownToks (F := F) c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => ownToks (F := F) c := by
    unfold allToks; rw [bigSep_map, bigSep_univ_prod]
    refine bigSep_congr fun c _ => ?_
    unfold ownToks; rw [bigSep_univ_sum]
    congr 1
    rw [show (Finset.univ : Finset Unit) = {()} from rfl, bigSep_singleton]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((semVal (kcell (c, dS)) 0 ∗ semVal (kcell (c, dR)) 0)
      ∗ (bigSep Finset.univ fun k : Fin 8 => semVal (kcell (c, xS k)) 0) ∗ (bigSep Finset.univ fun k : Fin 8 => semVal (kcell (c, xR k)) 0)
      ∗ (bigSep Finset.univ fun k : Fin 8 => semVal (kcell (c, yS k)) 0) ∗ (bigSep Finset.univ fun k : Fin 8 => semVal (kcell (c, yR k)) 0)) := by
  unfold Pipeline.ownSems0
  rw [bigSep_univ_sum, bigSep_univ_eq_bigSepL [0, 1] (by decide) (by decide), bigSep_univ_prod, fourth]; rfl
theorem unscopedSems0_eq (c : Dev nD) : (unscopedSems0 c : sProp 𝕄) = semVal (kcell (c, bar)) 0 := by
  unfold unscopedSems0; rw [bigSep_eq_bigSepL_of_eq [SemLoc.reg barS] (by decide) (by decide)]; rfl

/-- The kernel's own semaphores and the barrier's are the cells, -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, over_cells]
  iintro ⟨⟨⟨HS, HV⟩, Hr⟩, HB⟩
  isplitr [Hr]
  · isplitl [HB]; · iexact HB
    isplitl [HS] <;> iassumption
  iexact Hr

/-- whose invariants each device establishes. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ ownToks (F := F) c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd m ρ) (kcell (c, i)) 0)
      ⊢ (|={Set.univ}=> bigSep Finset.univ fun i : CI => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The duties carried across the axes to the devices that pay them. -/
theorem toks_across : (bigSep Finset.univ fun c : Dev nD => (ownToks (F := F) c : sProp 𝕄)) ⊢ bigSep Finset.univ fun c : Dev nD => payToks (F := F) c := by
  unfold ownToks payToks
  simp only [over_cells, bigSep_sep']
  rw [bigSep_univ_equiv (cross false) (fun c : Dev nD => (dutyTok ER (kcell (c, bar)) 0 false : sProp 𝕄)),
    bigSep_univ_equiv (cross true) (fun c : Dev nD => (dutyTok ER (kcell (c, bar)) 0 true : sProp 𝕄)),
    bigSep_univ_equiv (cross false) (fun c : Dev nD => (dutyTok ER (kcell (c, dR)) 0 false : sProp 𝕄)),
    bigSep_univ_equiv (cross false) (fun c : Dev nD => (bigSep Finset.univ fun k : Fin 8 => dutyTok ER (kcell (c, xR k)) 0 false : sProp 𝕄)),
    bigSep_univ_equiv (cross true) (fun c : Dev nD => (bigSep Finset.univ fun k : Fin 8 => dutyTok ER (kcell (c, yR k)) 0 false : sProp 𝕄))]
  iintro ⟨⟨⟨H1, H2, H3⟩, H4, H5, H6, H7⟩, H8⟩
  isplitl [H1 H2 H3 H8]
  · isplitl [H1]; · iexact H1
    isplitl [H8]; · iexact H8
    isplitl [H2]; · iexact H2
    iexact H3
  isplitl [H4]; · iexact H4
  isplitl [H5]; · iexact H5
  isplitl [H6]; · iexact H6
  iexact H7

/-- Every device's share, from the invariants all together, the positions and the duties. -/
theorem regroup :
    (bigSep Finset.univ fun c : Dev nD => iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ ownToks (F := F) c) : sProp 𝕄)
      ⊢ bigSep Finset.univ (dealt m ρ) := by
  rw [bigSep_sep', bigSep_sep', ← bigSep_univ_prod (fun p : Dev nD × CI => iprop(∃ κ : ℕ, cellInv ER (Rd m ρ) κ (kcell p))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun p : Dev nD × CI => (reached ER (kcell p) 0 : sProp 𝕄))]
  iintro ⟨HI, ⟨Hat, #HR⟩, Htok⟩
  ihave HK := (BI.bigSep_exists_pi Finset.univ (fun (p : Dev nD × CI) (κ : ℕ) => (cellInv ER (Rd m ρ) κ (kcell p) : sProp 𝕄))) $$ HI
  icases HK with ⟨%K, #HI⟩
  ihave Htk := (toks_across (F := F)) $$ Htok
  have hrec : iprop((bigSep Finset.univ fun p : Dev nD × CI => cellInv ER (Rd m ρ) (K p) (kcell p)) ∗ bigSep Finset.univ fun p : Dev nD × CI => (reached ER (kcell p) 0 : sProp 𝕄))
      ⊢ records m ρ K := by unfold records; exact Entails.refl _
  have hall : iprop(records m ρ K ∗ (bigSep Finset.univ fun c : Dev nD => iprop(payToks (F := F) c ∗ places (F := F) c))) ⊢ bigSep Finset.univ (dealt m ρ) :=
    (sep_mono_left (BI.bigSep_of_persistent Finset.univ (records m ρ K))).trans (by
      rw [← bigSep_sep']
      refine bigSep_mono fun c _ => ?_
      show iprop(records m ρ K ∗ payToks (F := F) c ∗ places (F := F) c) ⊢ dealt m ρ c
      unfold dealt; iintro H; iexists K; iexact H)
  iapply hall
  isplitr
  · iapply hrec; isplitr; · iexact HI
    iexact HR
  rw [bigSep_sep']
  isplitl [Htk]; · iexact Htk
  have hpl : (bigSep Finset.univ fun c : Dev nD => bigSep Finset.univ fun i : CI => (atPos ER (kcell (c, i)) 0 ∅ 0 : sProp 𝕄))
      = bigSep Finset.univ fun c : Dev nD => places (F := F) c := bigSep_congr fun c _ => by rw [over_cells]; rfl
  iapply (Entails.of_eq hpl); iexact Hat

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (dealt m ρ) :=
  ((bigSep_mono fun c _ => core_alloc m ρ c).trans (bigSep_fupd _ _)).trans (BI.fupd_mono (regroup m ρ))

/-! ## The launch credit -/

/-- How many raises of the list `l` of device `c` meet cell `i` of device `c'`. -/
def raises (c : Dev nD) (l : List (Bool × CI)) (c' : Dev nD) (i : CI) : ℕ := l.countP fun e => decide (nb e.1 c = c' ∧ e.2 = i)

theorem tal_at (c : Dev nD) (l : List (Bool × CI)) (c' : Dev nD) (i : CI) : tal c l (kcell (c', i)) () = amt i * raises c l c' i := by
  induction l with
  | nil => unfold tal raises; rfl
  | cons e l ih =>
    have hc : (kcell (c', i) = kcell (nb e.1 c, e.2)) ↔ (nb e.1 c = c' ∧ e.2 = i) := by
      rw [kcell_inj.eq_iff, Prod.mk.injEq]; exact ⟨fun h => ⟨h.1.symm, h.2.symm⟩, fun h => ⟨h.1.symm, h.2.symm⟩⟩
    unfold tal
    rw [Pi.add_apply, Finsupp.add_apply, ih, tallyAt_apply]
    unfold raises
    rw [List.countP_cons]
    by_cases h : nb e.1 c = c' ∧ e.2 = i
    · rw [if_pos ⟨hc.mpr h, rfl⟩, if_pos (decide_eq_true h), h.2, Nat.mul_add, Nat.mul_one]
    · rw [if_neg fun q => h (hc.mp q.1), if_neg (by simpa using h), Nat.add_zero, Nat.add_zero]

/-- How often a cell is raised by other devices in all. -/
def times : CI → ℕ
  | .inl 0 => 2
  | .inl 1 => 0
  | .inl 2 => 1
  | .inr (0, _) => 0
  | .inr (1, _) => 1
  | .inr (2, _) => 0
  | .inr (3, _) => 1

set_option maxRecDepth 8000 in
theorem raises_all (c' : Dev nD) (i : CI) : ∑ c : Dev nD, raises c dues c' i = times i := by revert c' i; decide +kernel

theorem launch_cell (c : Dev nD) (i : CI) :
    tallyOn (kcell (c, i)) (launchCredit (Pipeline.owing fun c => debt c 0) 0 (kcell (c, i))) = (tallyAt (kcell (c, i)) () (amt i * times i) : CellTallies nD τ sig Unit) := by
  unfold tallyAt; refine congrArg _ (Finsupp.ext fun u => ?_); cases u
  rw [Pipeline.launchCredit_owing, Finsupp.single_eq_same, ← raises_all c i, Finset.mul_sum]
  exact Finset.sum_congr rfl fun d _ => tal_at d dues c i

/-- The launch's credits hold a device's purse. -/
theorem creds (c : Dev nD) : (Pipeline.launchCred (fun c => debt c 0) c : sProp 𝕄) ⊢ purse (F := F) c := by
  unfold Pipeline.launchCred
  refine (bigSep_subset (t := Finset.univ.map ⟨csem, csem_inj⟩) (Finset.subset_univ _)).trans ?_
  rw [bigSep_map]
  have h : (bigSep Finset.univ fun i : CI => cred (tallyOn (kcell (c, i)) (launchCredit (Pipeline.owing fun c => debt c 0) 0 (kcell (c, i)))) : sProp 𝕄)
      = bigSep Finset.univ fun i : CI => cred (tallyAt (kcell (c, i)) () (amt i * times i)) := bigSep_congr fun i _ => by rw [launch_cell]
  refine (Entails.of_eq h).trans ?_
  rw [over_cells]
  unfold purse
  simp only [show amt bar * times bar = 2 from rfl, show amt dR * times dR = amt dR from Nat.mul_one _, fun k => show amt (xR k) * times (xR k) = amt (xR k) from Nat.mul_one _,
    fun k => show amt (yR k) * times (yR k) = amt (yR k) from Nat.mul_one _]
  iintro ⟨⟨H1, -, H2⟩, -, H3, -, H4⟩
  isplitl [H1]; · iexact H1
  isplitl [H2]; · iexact H2
  isplitl [H3] <;> iassumption

/-! ## Entering and leaving -/

theorem start_intro (c : Dev nD) :
    iprop(Pipeline.unscopedRestP Pipeline.Prefetch.none cfg0.spec c (fun b => m ((c : Thread nD τ).loc b)) ∗ levAts L lv
        ∗ Pipeline.launchCred (fun c => debt c 0) c ∗ prngReg c (ρ c) ∗ dealt m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scr (F := F) c) from rfl, scopedRest0_eq]
  unfold scr
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros (F := F) c ∗ scr (F := F) c) from rfl, scopedRest0_eq, ownSems0_eq, unscopedSems0_eq]
  unfold zeros scr
  iintro ⟨⟨⟨HzB, HzS, HzV⟩, Hz⟩, Hr⟩
  isplitl [HzB]; · iexact HzB
  isplitl [HzS HzV Hz]
  · isplitl [HzS HzV]; · isplitl [HzS] <;> iassumption
    iexact Hz
  iexact Hr

/-- The staging copies' cells rank lowest, so they may be waited for whatever is owed. -/
theorem mayWait_staging (c : Dev nD) (q : DmaSem sig) (hq : cix (.dma q) = none) (O : CellTallies nD τ sig Unit) (hO : O = debt c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨e, _, rfl⟩ := tal_pos hg; exact Finset.mem_singleton_self _)
      (fun p hp => by rw [Finset.mem_singleton.mp hp]; dsimp only [lv]; rw [hq]; exact le_refl 0)
      (fun g u hg => by
        obtain ⟨e, he, rfl⟩ := tal_pos hg
        rw [lv_cell]
        have : dues.all (fun e => decide (0 < rank e.2)) = true := by decide
        exact of_decide_eq_true (List.all_eq_true.mp this e he))
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_staging c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, at any float values: every weakly fair execution of the four devices' program
    terminates, every device's result array holds the computed contents, its inputs what they held, every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => debt c 0) (howed₀ := fun _ => rfl) (howedN := fun _ => rfl)
    (L := L) (lv := lv) (hL := L_of_ne) (hwaits := waits m ρ)
    (G := G m ρ) (G' := dealt m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
-- ==== Proof.Same.lean ====
/-
# The two printings of the kernel have one text

No rule rewrites the kernel, so the program read at the extended reals and the one read at machine words are the same
declarations under two names. This module says so of their body tables and their mains.
-/
module

public import proofs.«01_k».proof.Defs
public import proofs.«01_k».proof.Proof.Gen.Kernel
public import proofs.«01_k».proof.Proof.Gen.KernelIdeal

@[expose] public section

noncomputable section

namespace Cert.Exchange

open Idealize.ShloMosaic Cert.Kernel.Gen Cert.KernelIdeal.Gen

variable {F : FTy → Type} [FloatOps F]

/-- The kernels' body tables agree. -/
theorem bodies_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- The whole tables, the launch's own bodies included, agree. -/
theorem defs_same : Cert.Kernel.defs (F := F) = Cert.KernelIdeal.defs (F := F) := by
  unfold Cert.Kernel.defs Cert.KernelIdeal.defs
  exact congrArg (Pipeline.defs _) bodies_same

/-- The mains agree. -/
theorem main_same : Cert.Kernel.main (F := F) = Cert.KernelIdeal.main (F := F) := rfl

end Cert.Exchange

end
-- ==== Proof.Order.lean ====
/-
# Where a stable sort of the destinations puts a row

A table of `n` words is sorted stably, smaller signed word first. A number's place in the sorted order is then the
count of the numbers whose word is smaller, and of the numbers before it whose word is the same. So the numbers holding one word stand
together in the order, in increasing order of number. A sum over all the numbers that keeps only the one with a given
word and a given count of equal words before it is therefore one entry of the sorted order, or nothing.
-/
module

public import Idealize.ShloMosaic.Lib.SortFacts
public import Idealize.ShloMosaic.Lib.PlanTiles.StableSort
public import Mathlib.Data.Finset.Sort
public import Mathlib.Algebra.BigOperators.Group.Finset.Basic

@[expose] public section

noncomputable section

namespace Cert.Exchange

open Idealize.ShloMosaic Finset
open Idealize.ShloMosaic.PlanTiles (Lex pairwise_stableSort_lex)

variable {n : ℕ} (D : Fin n → BitVec 32)

/-- The numbers before `j` that hold the word `r`, counted. -/
def before (r : BitVec 32) (j : Fin n) : ℕ := (univ.filter fun k => k < j ∧ D k = r).card

/-- All the numbers that hold the word `r`, counted. -/
def total (r : BitVec 32) : ℕ := (univ.filter fun k => D k = r).card

/-- The numbers whose word is less than `r`, read signed, counted. -/
def lower (r : BitVec 32) : ℕ := (univ.filter fun k => (D k).slt r = true).card

/-- The order of the sort: by the words read signed, and by the numbers where the words agree. -/
def Ahead (a b : Fin n) : Prop := (D a).toInt < (D b).toInt ∨ ((D a).toInt = (D b).toInt ∧ a < b)

/-- The sort's comparison of two numbers. -/
abbrev firstOf (a b : Fin n) : Bool := IntOp.cmpi .slt (D a) (D b) == 1#1

/-- One comparison says whether the first word is the smaller. -/
theorem firstOf_eq (a b : Fin n) : firstOf D a b = decide ((D a).toInt < (D b).toInt) := by
  unfold firstOf IntOp.cmpi
  by_cases h : (D a).toInt < (D b).toInt <;> simp [BitVec.slt, h]

/-- In the sorted order an earlier place holds a number that is ahead. -/
theorem sorted_ahead (p q : Fin n) (h : p < q) : Ahead D (sortedFrom (firstOf D) p) (sortedFrom (firstOf D) q) := by
  let G : Fin n → ℕ := fun j => (2 ^ 31 - (D j).toInt).toNat
  have hG : ∀ a b : Fin n, (G b < G a) ↔ (D a).toInt < (D b).toInt := by
    intro a b
    have ha := BitVec.toInt_lt (x := D a)
    have hb := BitVec.toInt_lt (x := D b)
    simp only [G] at *
    omega
  have hE : ∀ a b : Fin n, (G a = G b) ↔ (D a).toInt = (D b).toInt := by
    intro a b
    have := hG a b
    have := hG b a
    omega
  have hf : firstOf D = fun x y => decide (G y < G x) := by
    funext a b
    rw [firstOf_eq]
    exact decide_eq_decide.mpr (hG a b).symm
  have hs : (sortPositions n (firstOf D)).Pairwise (Lex G (· < ·)) := by
    rw [hf]
    exact pairwise_stableSort_lex G _ _ (List.pairwise_lt_finRange n)
  have := List.pairwise_iff_get.mp hs (p.cast (length_sortPositions n _).symm) (q.cast (length_sortPositions n _).symm) h
  rcases this with h1 | ⟨h1, h2⟩
  · exact Or.inl ((hG _ _).mp h1)
  · exact Or.inr ⟨(hE _ _).mp h1, h2⟩

/-- A number is never ahead of one that is ahead of it. -/
theorem ahead_asymm {a b : Fin n} (h : Ahead D a b) : ¬ Ahead D b a := by
  unfold Ahead at *
  omega

/-- In the sorted order one number is ahead of another exactly when its place is the earlier. -/
theorem ahead_iff (p q : Fin n) : Ahead D (sortedFrom (firstOf D) p) (sortedFrom (firstOf D) q) ↔ p < q := by
  refine ⟨fun h => ?_, sorted_ahead D p q⟩
  rcases lt_trichotomy p q with h1 | h1 | h1
  · exact h1
  · subst h1
    exact absurd h (ahead_asymm D h)
  · exact absurd h (ahead_asymm D (sorted_ahead D q p h1))

/-- The numbers ahead of `j` are those with a smaller word and those before it with the same word. -/
theorem card_ahead (j : Fin n) [DecidablePred fun k => Ahead D k j] :
    (univ.filter fun k => Ahead D k j).card = lower D (D j) + before D (D j) j := by
  unfold lower before
  rw [← card_union_of_disjoint]
  · congr 1
    ext k
    simp only [mem_filter, mem_univ, true_and, mem_union, Ahead, BitVec.slt, decide_eq_true_eq, BitVec.toInt_inj]
    tauto
  · rw [disjoint_left]
    intro k hk hk'
    simp only [mem_filter, mem_univ, true_and, BitVec.slt, decide_eq_true_eq] at hk hk'
    rw [hk'.2] at hk
    exact lt_irrefl _ hk

/-- THE PLACE OF A NUMBER: the sorted order holds `j` at the count of the smaller words and of the same word before `j`. -/
theorem sorted_at (j p : Fin n) (hp : p.val = lower D (D j) + before D (D j) j) : sortedFrom (firstOf D) p = j := by
  classical
  obtain ⟨q, rfl⟩ := sortedFrom_surjective (firstOf D) j
  congr 1
  apply Fin.ext
  rw [hp, ← card_ahead]
  have : (univ.filter fun k => Ahead D k (sortedFrom (firstOf D) q)) =
      (univ.filter fun p' => p' < q).map ⟨sortedFrom (firstOf D), sortedFrom_injective _⟩ := by
    ext k
    obtain ⟨p', rfl⟩ := sortedFrom_surjective (firstOf D) k
    simp only [mem_filter, mem_univ, true_and, ahead_iff, mem_map, Function.Embedding.coeFn_mk]
    constructor
    · intro h
      exact ⟨p', h, rfl⟩
    · rintro ⟨a, ha, hb⟩
      rwa [← sortedFrom_injective _ hb]
  rw [this, card_map]
  have : (univ.filter fun p' : Fin n => p' < q) = Iio q := by ext; simp
  rw [this, Fin.card_Iio]

/-- The smaller words and the words equal to `r` are among all `n`. -/
theorem lower_add_total (r : BitVec 32) : lower D r + total D r ≤ n := by
  unfold lower total
  rw [← card_union_of_disjoint]
  · exact (card_le_univ _).trans (by simp)
  · rw [disjoint_left]
    intro k hk hk'
    simp only [mem_filter, mem_univ, true_and, BitVec.slt, decide_eq_true_eq] at hk hk'
    rw [hk'] at hk
    exact lt_irrefl _ hk

/-- A number holding `r` has fewer of them before it than there are. -/
theorem before_lt_total {r : BitVec 32} (j : Fin n) (h : D j = r) : before D r j < total D r := by
  refine card_lt_card ?_
  rw [ssubset_iff_of_subset (fun k hk => ?_)]
  · exact ⟨j, by simp [h], by simp⟩
  · simp only [mem_filter, mem_univ, true_and] at *
    exact hk.2

/-- Every count below the total is some number's count. -/
theorem exists_before {r : BitVec 32} (i : ℕ) (h : i < total D r) : ∃ j, D j = r ∧ before D r j = i := by
  let e := (univ.filter fun k => D k = r).orderIsoOfFin (k := total D r) rfl
  refine ⟨e ⟨i, h⟩, (mem_filter.mp (e ⟨i, h⟩).2).2, ?_⟩
  have : (univ.filter fun k => k < (e ⟨i, h⟩ : Fin n) ∧ D k = r) =
      (Iio (⟨i, h⟩ : Fin (total D r))).map (e.toEquiv.toEmbedding.trans (Function.Embedding.subtype _)) := by
    ext k
    simp only [mem_filter, mem_univ, true_and, mem_map, mem_Iio, Function.Embedding.trans_apply, Equiv.toEmbedding_apply,
      Function.Embedding.subtype_apply]
    constructor
    · rintro ⟨h1, h2⟩
      have hk : k ∈ univ.filter fun k => D k = r := by simp [h2]
      refine ⟨e.symm ⟨k, hk⟩, ?_, ?_⟩
      · rw [OrderIso.symm_apply_lt]
        exact h1
      · show ((e (e.symm ⟨k, hk⟩)) : Fin n) = k
        rw [OrderIso.apply_symm_apply]
    · rintro ⟨a, ha, rfl⟩
      refine ⟨?_, (mem_filter.mp (e a).2).2⟩
      exact e.lt_iff_lt.mpr ha
  unfold before
  rw [this, card_map, Fin.card_Iio]

variable {E : Type} [AddCommMonoid E] (X : Fin n → E)

/-- ENTRY `i` OF RANK `r`: of the numbers holding the word `r`, what `X` has at the one with `i` of them before it; nothing
    if there is none. It is written as a sum over all the numbers. -/
def picked (r : BitVec 32) (i : ℕ) : E := ∑ j, if D j = r ∧ before D r j = i then X j else 0

/-- Below the total the entry is the sorted order's, counted from the smaller words on. -/
theorem picked_lt (r : BitVec 32) (i : ℕ) (h : i < total D r) (p : Fin n) (hp : p.val = lower D r + i) :
    picked D X r i = X (sortedFrom (firstOf D) p) := by
  obtain ⟨j, hj, hi⟩ := exists_before D i h
  have hs : ∀ k, D k = r ∧ before D r k = i → sortedFrom (firstOf D) p = k := by
    rintro k ⟨rfl, hb⟩
    exact sorted_at D k p (by rw [hp, hb])
  unfold picked
  rw [sum_eq_single j]
  · rw [if_pos ⟨hj, hi⟩, hs j ⟨hj, hi⟩]
  · intro k _ hk
    rw [if_neg]
    intro hc
    exact hk ((hs k hc).symm.trans (hs j ⟨hj, hi⟩))
  · exact fun hc => absurd (mem_univ j) hc

/-- From the total on there is nothing. -/
theorem picked_ge (r : BitVec 32) (i : ℕ) (h : total D r ≤ i) : picked D X r i = 0 := by
  unfold picked
  refine sum_eq_zero fun j _ => if_neg ?_
  rintro ⟨h1, h2⟩
  have := before_lt_total D j h1
  omega

end Cert.Exchange
-- ==== Proof.Scan.lean ====
/-
# Ten doubling steps count a prefix

The kernel counts a row's place among the rows of its rank by a scan along the lanes: at each step, with shift
`s = 1, 2, 4, …, 512`, every lane adds what lane `k - s` held, and nothing where there is no such lane. Before the step with
shift `s` lane `k` holds the count over the last `s` lanes up to `k`; after it, over the last `2 * s`. One lemma says so for
any shift, and the scans of the two dest blocks are chains of it.
-/
module

public import proofs.«01_k».proof.Proof.Order
public import proofs.«01_k».proof.Proof.Gen.KernelIdeal
public import Idealize.ShloMosaic.Lib.Pipeline.Value
public import Idealize.ShloMosaic.Lib.ValueIdx
public import Idealize.ShloMosaic.Lib.ValueLayout
public import Idealize.ShloMosaic.Lib.Routing.Words

@[expose] public section

noncomputable section

namespace Cert.Exchange

open Idealize.ShloMosaic Finset Idealize.ShloMosaic.ValueIdx Cert.KernelIdeal Cert.KernelIdeal.Gen

variable {n : ℕ} (D : Fin n → BitVec 32)

/-- Of the last `s` numbers up to `k`, those holding `r`, counted. -/
def recent (r : BitVec 32) (s : ℕ) (k : Fin n) : ℕ := (univ.filter fun j => j ≤ k ∧ k.val < j.val + s ∧ D j = r).card

/-- The count over twice as many numbers is the count over the nearer ones and the count over the farther ones. -/
theorem recent_double (r : BitVec 32) (s : ℕ) (k : Fin n) :
    recent D r (2 * s) k = recent D r s k + if h : s ≤ k.val then recent D r s ⟨k.val - s, by omega⟩ else 0 := by
  unfold recent
  split
  · next h =>
    rw [← card_union_of_disjoint]
    · congr 1
      ext j
      simp only [mem_filter, mem_univ, true_and, mem_union, Fin.le_def]
      constructor
      · rintro ⟨h1, h2, h3⟩
        by_cases hj : k.val < j.val + s
        · exact Or.inl ⟨h1, hj, h3⟩
        · exact Or.inr ⟨by omega, by omega, h3⟩
      · rintro (⟨h1, h2, h3⟩ | ⟨h1, h2, h3⟩)
        · exact ⟨h1, by omega, h3⟩
        · exact ⟨by omega, by omega, h3⟩
    · rw [disjoint_left]
      intro j hj hj'
      simp only [mem_filter, mem_univ, true_and, Fin.le_def] at hj hj'
      omega
  · next h =>
    rw [Nat.add_zero]
    congr 1
    ext j
    simp only [mem_filter, mem_univ, true_and, Fin.le_def]
    constructor
    · rintro ⟨h1, h2, h3⟩
      exact ⟨h1, by omega, h3⟩
    · rintro ⟨h1, h2, h3⟩
      exact ⟨h1, by omega, h3⟩

/-- The count over the last one number. -/
theorem recent_one (r : BitVec 32) (k : Fin n) : recent D r 1 k = if D k = r then 1 else 0 := by
  unfold recent
  split
  · next h =>
    rw [card_eq_one]
    refine ⟨k, ?_⟩
    ext j
    simp only [mem_filter, mem_univ, true_and, mem_singleton, Fin.le_def]
    constructor
    · rintro ⟨h1, h2, h3⟩
      exact Fin.ext (by omega)
    · rintro rfl
      exact ⟨le_refl _, by omega, h⟩
  · next h =>
    rw [card_eq_zero, filter_eq_empty_iff]
    rintro j - ⟨h1, h2, h3⟩
    have : j = k := Fin.ext (by have := Fin.le_def.mp h1; omega)
    exact h (this ▸ h3)

/-- The count over all the numbers up to `k` is the count before `k` and `k` itself. -/
theorem recent_all (r : BitVec 32) (k : Fin n) : recent D r n k = before D r k + if D k = r then 1 else 0 := by
  rw [← recent_one]
  unfold recent before
  rw [← card_union_of_disjoint]
  · congr 1
    ext j
    simp only [mem_filter, mem_univ, true_and, mem_union, Fin.le_def, Fin.lt_def]
    have := k.isLt
    constructor
    · rintro ⟨h1, h2, h3⟩
      by_cases hj : j.val < k.val
      · exact Or.inl ⟨hj, h3⟩
      · exact Or.inr ⟨h1, by omega, h3⟩
    · rintro (⟨h1, h3⟩ | ⟨h1, h2, h3⟩)
      · exact ⟨by omega, by omega, h3⟩
      · exact ⟨h1, by omega, h3⟩
  · rw [disjoint_left]
    intro j hj hj'
    simp only [mem_filter, mem_univ, true_and, Fin.le_def, Fin.lt_def] at hj hj'
    omega

/-- The count over all the numbers up to the last is the total. -/
theorem recent_last (r : BitVec 32) (k : Fin n) (hk : k.val + 1 = n) : recent D r n k = total D r := by
  unfold recent total
  congr 1
  ext j
  simp only [mem_filter, mem_univ, true_and, Fin.le_def]
  have := j.isLt
  constructor
  · exact fun h => h.2.2
  · exact fun h => ⟨by omega, by omega, h⟩

/-- The total is at most the number of numbers. -/
theorem total_le (r : BitVec 32) : total D r ≤ n := (card_le_univ _).trans (by simp)

/-- The lanes' words count the last `s` lanes. -/
def Counts (D : Fin 1024 → BitVec 32) (r : BitVec 32) (s : ℕ) (v : IVec S1x1024 32) : Prop :=
  ∀ k : Fin 1024, v (ix2 (0 : Fin 1) k) = BitVec.ofNat 32 (recent D r s k)

/-- ONE DOUBLING STEP: lanes that count the last `s` lanes, added to themselves shifted by `s` with zeros coming in, count
    the last `2 * s`. -/
theorem counts_step {D : Fin 1024 → BitVec 32} {r : BitVec 32} {s t : ℕ} (hst : s + t = 1024) {v : IVec S1x1024 32}
    (hv : Counts D r s v) (z : IVec ⟨2, ![1, s]⟩ 32) (hz : ∀ i, z i = 0#32)
    (hs : S1x1024.Slices ![0, 0] ⟨2, ![1, t]⟩) (hc : Shape.Concatenates [⟨2, ![1, s]⟩, ⟨2, ![1, t]⟩] S1x1024 1) :
    Counts D r (2 * s) (addi v (concatenate S1x1024 1 [⟨⟨2, ![1, s]⟩, z⟩, ⟨⟨2, ![1, t]⟩, extractStridedSlice ⟨2, ![1, t]⟩ ![0, 0] v hs⟩] hc)) := by
  intro k
  rw [recent_double, BitVec.ofNat_add]
  show v (ix2 (0 : Fin 1) k) + _ = _
  rw [hv k]
  congr 1
  have hk := k.isLt
  split
  · next h =>
    have ht : k.val - s < t := by omega
    refine (concatenate_pair_apply_right (1 : Fin S1x1024.rank) z _ hc (ix2 (0 : Fin 1) k) rfl rfl
      (ix2 (0 : Fin 1) (⟨k.val - s, ht⟩ : Fin t) : (⟨2, ![1, t]⟩ : Shape).Idx) ?_ ?_).trans ?_
    rotate_right
    · rw [slice2_axis1_apply 0 v hs (0 : Fin 1) (⟨k.val - s, ht⟩ : Fin t) ⟨k.val - s, by omega⟩ (Nat.zero_add _).symm, hv]
    · intro b hb
      match b with
      | ⟨0, _⟩ => rfl
      | ⟨1, _⟩ => exact absurd rfl hb
    · show k.val - s + s = k.val
      omega
  · next h =>
    have ht : k.val < s := by omega
    refine (concatenate_pair_apply_left (1 : Fin S1x1024.rank) z _ hc (ix2 (0 : Fin 1) k) rfl
      (ix2 (0 : Fin 1) (⟨k.val, ht⟩ : Fin s) : (⟨2, ![1, s]⟩ : Shape).Idx) ?_).trans (hz _)
    intro b
    match b with
    | ⟨0, _⟩ => rfl
    | ⟨1, _⟩ => rfl

/-- The mask of a dest block, widened, counts each lane alone. -/
theorem counts_mask {D : Fin 1024 → BitVec 32} {r : BitVec 32} (mk : IVec S1x1024 1)
    (hm : ∀ k : Fin 1024, mk (ix2 (0 : Fin 1) k) = IntOp.cmpi .eq (D k) r) : Counts D r 1 (extui 32 mk natLt_1_32) := by
  intro k
  show (mk (ix2 (0 : Fin 1) k)).setWidth 32 = _
  rw [hm, recent_one]
  show (BitVec.ofBool (D k == r)).setWidth 32 = _
  by_cases h : D k = r
  · simp [h]
  · rw [if_neg h, beq_eq_false_iff_ne.mpr h]
    rfl

end Cert.Exchange
-- ==== Proof.Places.lean ====
/-
# The places the kernel computes, and its one-hot matrices

From the two dest blocks the kernel computes, for every row of its own block and of the other block, whether the row belongs
to its rank, and the place the row takes. A row's place is an offset, the total of the earlier block or nothing, and the
count of the rank's rows before it in its own block. The matrices it multiplies by hold one where the row belongs to the
rank and its place is the matrix row's number, and zero elsewhere.
-/
module

public import proofs.«01_k».proof.Proof.Scan
public import proofs.«01_k».proof.Proof.Gen.KernelIdeal.Skeleton
public import Idealize.ShloMosaic.PureOps.Ideal
public import Idealize.ShloMosaic.Lib.Routing.BitFacts

@[expose] public section

noncomputable section

namespace Cert.Exchange

open Idealize.ShloMosaic Finset Idealize.ShloMosaic.ValueIdx Cert.KernelIdeal Cert.KernelIdeal.Gen

variable {F : FTy → Type} [FloatOps F]

/-- A dest block read along its lanes. -/
def lanes (v : IVec S1x1024 32) : Fin 1024 → BitVec 32 := fun k => v (ix2 (0 : Fin 1) k)

/-- The mask of a device's own block. -/
theorem pay2_apply (r : BitVec 32) (v : Vec F S1x1024 .i32) (k : Fin 1024) :
    k0_pay2 (F := F) r v (ix2 (0 : Fin 1) k) = IntOp.cmpi .eq (lanes v k) r := by
  unfold k0_pay2
  show cmpi .eq (shapeCast S1x1024 v _) _ (ix2 (0 : Fin 1) k) = _
  rw [shapeCast_self]
  rfl

/-- The mask of the other block. -/
theorem pay3_apply (r : BitVec 32) (v : Vec F S1x1024 .i32) (k : Fin 1024) :
    k0_pay3 (F := F) r v (ix2 (0 : Fin 1) k) = IntOp.cmpi .eq (lanes v k) r := rfl

/-- The first seven steps of the own block's scan. -/
theorem pay4_counts (r : BitVec 32) (v : Vec F S1x1024 .i32) : Counts (lanes v) r 128 (k0_pay4 (F := F) r v) := by
  have h0 := counts_mask (D := lanes v) (r := r) (k0_pay2 (F := F) r v) (pay2_apply r v)
  have h1 := counts_step (s := 1) (t := 1023) rfl h0 (broadcast S1x1 0#32) (fun _ => rfl) slices_S1x1024_o0_0_S1x1023 concatenates_S1x1_S1x1023_S1x1024_d1
  have h2 := counts_step (s := 2) (t := 1022) rfl h1 (broadcast S1x2 0#32) (fun _ => rfl) slices_S1x1024_o0_0_S1x1022 concatenates_S1x2_S1x1022_S1x1024_d1
  have h3 := counts_step (s := 4) (t := 1020) rfl h2 (broadcast S1x4 0#32) (fun _ => rfl) slices_S1x1024_o0_0_S1x1020 concatenates_S1x4_S1x1020_S1x1024_d1
  have h4 := counts_step (s := 8) (t := 1016) rfl h3 (broadcast S1x8 0#32) (fun _ => rfl) slices_S1x1024_o0_0_S1x1016 concatenates_S1x8_S1x1016_S1x1024_d1
  have h5 := counts_step (s := 16) (t := 1008) rfl h4 (broadcast S1x16 0#32) (fun _ => rfl) slices_S1x1024_o0_0_S1x1008 concatenates_S1x16_S1x1008_S1x1024_d1
  have h6 := counts_step (s := 32) (t := 992) rfl h5 (broadcast S1x32 0#32) (fun _ => rfl) slices_S1x1024_o0_0_S1x992 concatenates_S1x32_S1x992_S1x1024_d1
  exact counts_step (s := 64) (t := 960) rfl h6 (broadcast S1x64 0#32) (fun _ => rfl) slices_S1x1024_o0_0_S1x960 concatenates_S1x64_S1x960_S1x1024_d1

/-- The own block's scan, finished. -/
theorem pay7_counts (r : BitVec 32) (v : Vec F S1x1024 .i32) :
    Counts (lanes v) r 1024 (k0_pay7 (k0_pay4 (F := F) r v) k0_pay5 (k0_pay6 (F := F) r v)) := by
  have h1 := counts_step (s := 128) (t := 896) rfl (pay4_counts (F := F) r v) (broadcast S1x128 0#32) (fun _ => rfl) slices_S1x1024_o0_0_S1x896 concatenates_S1x128_S1x896_S1x1024_d1
  have h2 := counts_step (s := 256) (t := 768) rfl h1 (broadcast S1x256 0#32) (fun _ => rfl) slices_S1x1024_o0_0_S1x768 concatenates_S1x256_S1x768_S1x1024_d1
  exact counts_step (s := 512) (t := 512) rfl h2 (broadcast S1x512 0#32) (fun _ => rfl) slices_S1x1024_o0_0_S1x512 concatenates_S1x512_S1x512_S1x1024_d1

/-- The first nine steps of the other block's scan. -/
theorem pay8_counts (r : BitVec 32) (v : Vec F S1x1024 .i32) : Counts (lanes v) r 512 (k0_pay8 (k0_pay3 (F := F) r v)) := by
  have h0 := counts_mask (D := lanes v) (r := r) (k0_pay3 (F := F) r v) (pay3_apply r v)
  have h1 := counts_step (s := 1) (t := 1023) rfl h0 (broadcast S1x1 0#32) (fun _ => rfl) slices_S1x1024_o0_0_S1x1023 concatenates_S1x1_S1x1023_S1x1024_d1
  have h2 := counts_step (s := 2) (t := 1022) rfl h1 (broadcast S1x2 0#32) (fun _ => rfl) slices_S1x1024_o0_0_S1x1022 concatenates_S1x2_S1x1022_S1x1024_d1
  have h3 := counts_step (s := 4) (t := 1020) rfl h2 (broadcast S1x4 0#32) (fun _ => rfl) slices_S1x1024_o0_0_S1x1020 concatenates_S1x4_S1x1020_S1x1024_d1
  have h4 := counts_step (s := 8) (t := 1016) rfl h3 (broadcast S1x8 0#32) (fun _ => rfl) slices_S1x1024_o0_0_S1x1016 concatenates_S1x8_S1x1016_S1x1024_d1
  have h5 := counts_step (s := 16) (t := 1008) rfl h4 (broadcast S1x16 0#32) (fun _ => rfl) slices_S1x1024_o0_0_S1x1008 concatenates_S1x16_S1x1008_S1x1024_d1
  have h6 := counts_step (s := 32) (t := 992) rfl h5 (broadcast S1x32 0#32) (fun _ => rfl) slices_S1x1024_o0_0_S1x992 concatenates_S1x32_S1x992_S1x1024_d1
  have h7 := counts_step (s := 64) (t := 960) rfl h6 (broadcast S1x64 0#32) (fun _ => rfl) slices_S1x1024_o0_0_S1x960 concatenates_S1x64_S1x960_S1x1024_d1
  have h8 := counts_step (s := 128) (t := 896) rfl h7 (broadcast S1x128 0#32) (fun _ => rfl) slices_S1x1024_o0_0_S1x896 concatenates_S1x128_S1x896_S1x1024_d1
  exact counts_step (s := 256) (t := 768) rfl h8 (broadcast S1x256 0#32) (fun _ => rfl) slices_S1x1024_o0_0_S1x768 concatenates_S1x256_S1x768_S1x1024_d1

/-- The other block's scan, finished. -/
theorem pay10_counts (r : BitVec 32) (v : Vec F S1x1024 .i32) :
    Counts (lanes v) r 1024 (k0_pay10 (k0_pay8 (k0_pay3 (F := F) r v)) k0_pay9) :=
  counts_step (s := 512) (t := 512) rfl (pay8_counts (F := F) r v) (broadcast S1x512 0#32) (fun _ => rfl) slices_S1x1024_o0_0_S1x512 concatenates_S1x512_S1x512_S1x1024_d1

/-- The last lane of a finished scan, as the kernel extracts it, is the block's total. -/
theorem last_total {D : Fin 1024 → BitVec 32} {r : BitVec 32} {v : IVec S1x1024 32} (hv : Counts D r 1024 v) :
    extractAt ![0, 0] (extractStridedSlice S1x1 ![0, 1023] v slices_S1x1024_o0_1023_S1x1) inpos_S1x1_p0_0 = BitVec.ofNat 32 (total D r) := by
  rw [← recent_last D r ⟨1023, by omega⟩ rfl, ← hv]
  refine congrArg v (funext fun a => Fin.ext ?_)
  match a with
  | ⟨0, _⟩ => rfl
  | ⟨1, _⟩ => rfl

/-- A lane's place by words: the offset and the count up to the lane, less one. -/
def PlaceAt (D : Fin 1024 → BitVec 32) (r : BitVec 32) (off : ℕ) (v : IVec S1x1024 32) : Prop :=
  ∀ k : Fin 1024, v (ix2 (0 : Fin 1) k) = BitVec.ofNat 32 off + BitVec.ofNat 32 (recent D r 1024 k) - 1#32

/-- The offset of a device's own rows: nothing on the first rank, the other block's total on the second. -/
def offOwn (P : Fin 1024 → BitVec 32) (r : BitVec 32) : ℕ := if r = 0#32 then 0 else total P r
/-- The offset of the other block's rows: this block's total on the first rank, nothing on the second. -/
def offPeer (D : Fin 1024 → BitVec 32) (r : BitVec 32) : ℕ := if r = 0#32 then total D r else 0

/-- A select by the test that a word is zero. -/
theorem select_zero {α : Type} (r : BitVec 32) (a b : α) :
    Scalar.select (Scalar.cmpi .eq r 0#32) a b = if r = 0#32 then a else b := by
  unfold Scalar.select Scalar.cmpi IntOp.cmpi
  by_cases h : r = 0#32
  · rw [if_pos h, h]; rfl
  · rw [if_neg h]
    show (if BitVec.ofBool (r == 0#32) = 1#1 then a else b) = b
    rw [beq_eq_false_iff_ne.mpr h]
    rfl

/-- The own rows' places. -/
theorem pay11_place (r : BitVec 32) (v w : Vec F S1x1024 .i32) :
    PlaceAt (lanes v) r (offOwn (lanes w) r)
      (k0_pay11 r (k0_pay7 (k0_pay4 (F := F) r v) k0_pay5 (k0_pay6 (F := F) r v)) (k0_pay8 (k0_pay3 (F := F) r w)) k0_pay9) := by
  intro k
  have e : k0_pay11 r (k0_pay7 (k0_pay4 (F := F) r v) k0_pay5 (k0_pay6 (F := F) r v)) (k0_pay8 (k0_pay3 (F := F) r w)) k0_pay9 (ix2 (0 : Fin 1) k)
      = Scalar.select (Scalar.cmpi .eq r 0#32) 0#32 (extractAt ![0, 0] (extractStridedSlice S1x1 ![0, 1023]
          (k0_pay10 (k0_pay8 (k0_pay3 (F := F) r w)) k0_pay9) slices_S1x1024_o0_1023_S1x1) inpos_S1x1_p0_0)
        + k0_pay7 (k0_pay4 (F := F) r v) k0_pay5 (k0_pay6 (F := F) r v) (ix2 (0 : Fin 1) k) - 1#32 := rfl
  rw [e, last_total (pay10_counts (F := F) r w), pay7_counts (F := F) r v k, select_zero]
  unfold offOwn
  split <;> rfl

/-- Lanes with their halves exchanged, or not. -/
def turn (y : BitVec 32) (k : Fin 1024) : Fin 1024 := if y = 0#32 then k else ⟨(k.val + 512) % 1024, Nat.mod_lt _ (by decide)⟩

/-- Exchanging the halves twice changes nothing. -/
theorem turn_turn (y : BitVec 32) (k : Fin 1024) : turn y (turn y k) = k := by
  unfold turn
  have := k.isLt
  split
  · rfl
  · apply Fin.ext
    show ((k.val + 512) % 1024 + 512) % 1024 = k.val
    omega

/-- The halves of a row, exchanged by slices and a concatenation where the second mesh coordinate is not zero. -/
theorem swapped (y : BitVec 32) (v : IVec S1x1024 32) (k : Fin 1024) :
    Scalar.select (Scalar.cmpi .eq y 0#32) v (concatenate S1x1024 1 [⟨S1x512, extractStridedSlice S1x512 ![0, 512] v slices_S1x1024_o0_512_S1x512⟩,
      ⟨S1x512, extractStridedSlice S1x512 ![0, 0] v slices_S1x1024_o0_0_S1x512⟩] concatenates_S1x512_S1x512_S1x1024_d1) (ix2 (0 : Fin 1) k)
      = v (ix2 (0 : Fin 1) (turn y k)) := by
  rw [select_zero]
  unfold turn
  split
  · rfl
  · have hk := k.isLt
    by_cases h : k.val < 512
    · refine (concatenate_pair_apply_left (s₁ := S1x512) (s₂ := S1x512) (1 : Fin S1x1024.rank) _ _ concatenates_S1x512_S1x512_S1x1024_d1 (ix2 (0 : Fin 1) k) rfl
        (ix2 (0 : Fin 1) (⟨k.val, h⟩ : Fin 512) : S1x512.Idx) ?_).trans ?_
      · intro b
        match b with
        | ⟨0, _⟩ => rfl
        | ⟨1, _⟩ => rfl
      · exact slice2_axis1_apply 512 v slices_S1x1024_o0_512_S1x512 (0 : Fin 1) (⟨k.val, h⟩ : Fin 512) _ (by show (k.val + 512) % 1024 = 512 + k.val; omega)
    · have ht : k.val - 512 < 512 := by omega
      refine (concatenate_pair_apply_right (s₁ := S1x512) (s₂ := S1x512) (1 : Fin S1x1024.rank) _ _ concatenates_S1x512_S1x512_S1x1024_d1 (ix2 (0 : Fin 1) k) rfl rfl
        (ix2 (0 : Fin 1) (⟨k.val - 512, ht⟩ : Fin 512) : S1x512.Idx) ?_ ?_).trans ?_
      · intro b hb
        match b with
        | ⟨0, _⟩ => rfl
        | ⟨1, _⟩ => exact absurd rfl hb
      · show k.val - 512 + 512 = k.val
        omega
      · exact slice2_axis1_apply 0 v slices_S1x1024_o0_0_S1x512 (0 : Fin 1) (⟨k.val - 512, ht⟩ : Fin 512) _
          (by show (k.val + 512) % 1024 = 0 + (k.val - 512); omega)

/-- The other rows' places from the two scans, whatever these hold. -/
theorem pay12_apply (r y : BitVec 32) (a b : IVec S1x1024 32) (z : IVec S1x512 32) (k : Fin 1024) :
    k0_pay12 r y a b z (ix2 (0 : Fin 1) k)
      = Scalar.select (Scalar.cmpi .eq r 0#32) (extractAt ![0, 0] (extractStridedSlice S1x1 ![0, 1023] a slices_S1x1024_o0_1023_S1x1) inpos_S1x1_p0_0) 0#32
        + k0_pay10 b z (ix2 (0 : Fin 1) (turn y k)) - 1#32 := by
  unfold k0_pay12
  exact (swapped y _ k).trans rfl

/-- The other rows' places, in the order the rows come to lie. -/
theorem pay12_place (r y : BitVec 32) (v w : Vec F S1x1024 .i32) (k : Fin 1024) :
    k0_pay12 r y (k0_pay7 (k0_pay4 (F := F) r v) k0_pay5 (k0_pay6 (F := F) r v)) (k0_pay8 (k0_pay3 (F := F) r w)) k0_pay9 (ix2 (0 : Fin 1) k)
      = BitVec.ofNat 32 (offPeer (lanes v) r) + BitVec.ofNat 32 (recent (lanes w) r 1024 (turn y k)) - 1#32 := by
  rw [pay12_apply, last_total (pay7_counts (F := F) r v), pay10_counts (F := F) r w (turn y k), select_zero]
  unfold offPeer
  split <;> rfl

/-- The other rows' mask, widened, in the order the rows come to lie. -/
theorem pay13_apply (r y : BitVec 32) (w : Vec F S1x1024 .i32) (k : Fin 1024) :
    k0_pay13 y (k0_pay3 (F := F) r w) (ix2 (0 : Fin 1) k) = (IntOp.cmpi .eq (lanes w (turn y k)) r).setWidth 32 := by
  unfold k0_pay13
  exact (swapped y _ k).trans rfl

/-! ## The one-hot matrices -/

/-- One where lane `k` belongs to the rank and takes place `i`, zero elsewhere. -/
def hot (D : Fin 1024 → BitVec 32) (r : BitVec 32) (off : ℕ) (i k : Fin 1024) : EReal :=
  if D k = r ∧ off + before D r k = i.val then 1 else 0

/-- The bit the kernel forms, converted to a float, is the one-hot entry. -/
theorem hot_bit (D : Fin 1024 → BitVec 32) (r : BitVec 32) (off : ℕ) (ho : off ≤ 1024) (i k : Fin 1024) (p : BitVec 1)
    (hp : p = IntOp.cmpi .eq (D k) r) :
    ((((IntOp.cmpi .eq (BitVec.ofNat 32 i.val) (BitVec.ofNat 32 off + BitVec.ofNat 32 (recent D r 1024 k) - 1#32) &&& p).setWidth 32).toInt : ℝ) : EReal)
      = hot D r off i k := by
  subst hp
  unfold hot
  show ((((BitVec.ofBool (BitVec.ofNat 32 i.val == _) &&& BitVec.ofBool (D k == r)).setWidth 32).toInt : ℝ) : EReal) = _
  by_cases h : D k = r
  · have hb := before_lt_total D k h
    have hl := total_le D r
    have hi := i.isLt
    rw [recent_all, if_pos h, ← BitVec.ofNat_add, Routing.ofNat32_sub (by omega), show off + (before D r k + 1) - 1 = off + before D r k by omega,
      beq_iff_eq.mpr h]
    by_cases hc : off + before D r k = i.val
    · rw [if_pos ⟨h, hc⟩, hc, beq_self_eq_true, show ((BitVec.ofBool true &&& BitVec.ofBool true).setWidth 32).toInt = 1 from by decide]
      norm_num
    · rw [if_neg (fun e => hc e.2), beq_eq_false_iff_ne.mpr]
      · norm_num
      · intro e
        have := congrArg BitVec.toNat e
        rw [BitVec.toNat_ofNat, BitVec.toNat_ofNat, Nat.mod_eq_of_lt (by omega), Nat.mod_eq_of_lt (by omega)] at this
        exact hc this.symm
  · rw [if_neg (fun e => h e.1), beq_eq_false_iff_ne.mpr h]
    show ((((_ &&& 0#1).setWidth 32).toInt : ℝ) : EReal) = 0
    rw [BitVec.and_zero]
    norm_num

/-- The row numbers, along the rows. -/
abbrev rowNo : IVec S1024x1024 32 := iota .tc S1024x1024 32 [0] iota_S1024x1024_d0_w32

/-- A row number at an index. -/
theorem rowNo_apply (i k : Fin 1024) : rowNo (ix2 i k) = BitVec.ofNat 32 i.val := by
  unfold rowNo
  rw [iota_single_apply]

/-- The own rows' matrix at an index, whatever the row numbers, mask and places. -/
theorem pay14_apply (it : IVec S1024x1024 32) (p : IVec S1x1024 1) (q : IVec S1x1024 32) (i k : Fin 1024) :
    k0_pay14 (F := Ideal) it p q (ix2 i k)
      = ((((IntOp.cmpi .eq (it (ix2 i k)) (q (ix2 (0 : Fin 1) k)) &&& p (ix2 (0 : Fin 1) k)).setWidth 32).toInt : ℝ) : EReal) := by
  rw [← broadcastTo_1b_ab_apply q broadcasts_S1x1024_S1024x1024 i k, ← broadcastTo_1b_ab_apply p broadcasts_S1x1024_S1024x1024 i k]
  rfl

/-- The other rows' matrix at an index, whatever the row numbers, widened mask and places. -/
theorem pay16_apply (it : IVec S1024x1024 32) (p q : IVec S1x1024 32) (i k : Fin 1024) :
    k0_pay16 (F := Ideal) it p (k0_pay15 q) (ix2 i k)
      = ((((IntOp.cmpi .eq (it (ix2 i k)) (q (ix2 (0 : Fin 1) k)) &&& IntOp.cmpi .sgt (p (ix2 (0 : Fin 1) k)) 0#32).setWidth 32).toInt : ℝ) : EReal) := by
  rw [← broadcastTo_1b_ab_apply q broadcasts_S1x1024_S1024x1024 i k]
  have e : IntOp.cmpi .sgt (p (ix2 (0 : Fin 1) k)) 0#32 = cmpi .sgt p (broadcast S1x1024 0#32) (ix2 (0 : Fin 1) k) := rfl
  rw [e, ← broadcastTo_1b_ab_apply (cmpi .sgt p (broadcast S1x1024 0#32)) broadcasts_S1x1024_S1024x1024 i k]
  rfl

/-- The own rows' matrix is one-hot. -/
theorem pay14_hot (r : BitVec 32) (v w : Vec Ideal S1x1024 .i32) (i k : Fin 1024) :
    k0_pay14 (F := Ideal) rowNo (k0_pay2 (F := Ideal) r v)
      (k0_pay11 r (k0_pay7 (k0_pay4 (F := Ideal) r v) k0_pay5 (k0_pay6 (F := Ideal) r v)) (k0_pay8 (k0_pay3 (F := Ideal) r w)) k0_pay9) (ix2 i k)
      = hot (lanes v) r (offOwn (lanes w) r) i k := by
  rw [pay14_apply, rowNo_apply, pay11_place (F := Ideal) r v w k]
  exact hot_bit _ r _ (by unfold offOwn; have := total_le (lanes w) r; split <;> omega) i k _ (pay2_apply r v k)

/-- A bit widened and tested against zero is the bit. -/
theorem sgt_widened (b : BitVec 1) : IntOp.cmpi .sgt (b.setWidth 32) 0#32 = b := by revert b; decide

/-- The other rows' matrix is one-hot, its columns in the order the rows come to lie. -/
theorem pay16_hot (r y : BitVec 32) (v w : Vec Ideal S1x1024 .i32) (i k : Fin 1024) :
    k0_pay16 (F := Ideal) rowNo (k0_pay13 y (k0_pay3 (F := Ideal) r w))
      (k0_pay15 (k0_pay12 r y (k0_pay7 (k0_pay4 (F := Ideal) r v) k0_pay5 (k0_pay6 (F := Ideal) r v)) (k0_pay8 (k0_pay3 (F := Ideal) r w)) k0_pay9)) (ix2 i k)
      = hot (lanes w) r (offPeer (lanes v) r) i (turn y k) := by
  rw [pay16_apply, rowNo_apply, pay12_place (F := Ideal) r y v w k, pay13_apply, sgt_widened]
  exact hot_bit _ r _ (by unfold offPeer; have := total_le (lanes v) r; split <;> omega) i _ _ rfl

end Cert.Exchange
-- ==== Proof.Product.lean ====
/-
# The kernel's products, as one sum over its own rows and one over the other block's

The kernel's result is a product of the own rows' matrix with the own rows, and three products of columns of the other rows'
matrix with the rows as they came: 512 over the x axis, and 256 and 256 over the y axis. At the extended reals these
are two sums over 1024 rows. When the two devices on one row of the mesh hold the same block, the rows that came are the
other block's, its halves exchanged as the matrix's columns are, and the sum is over that block in its own order.
-/
module

public import proofs.«01_k».proof.Proof.Places
public import proofs.«01_k».proof.Proof.Body4
public import Idealize.ShloMosaic.Lib.MatmulPlain
public import Idealize.ShloMosaic.Lib.IdealHost

@[expose] public section

noncomputable section

namespace Cert.Exchange

open Idealize.ShloMosaic Finset Idealize.ShloMosaic.ValueIdx Cert.KernelIdeal Cert.KernelIdeal.Gen

/-- A sum over 1024 numbers, cut at 512 and 768. -/
theorem sum_cut (f : Fin 1024 → EReal) :
    ∑ k, f k = ((∑ k : Fin 512, f ⟨k.val, by omega⟩) + ∑ k : Fin 256, f ⟨512 + k.val, by omega⟩) + ∑ k : Fin 256, f ⟨768 + k.val, by omega⟩ := by
  have h1 := Fin.sum_univ_add (a := 768) (b := 256) f
  have h2 := Fin.sum_univ_add (a := 512) (b := 256) fun k => f (Fin.castAdd 256 k)
  exact h1.trans (congrArg (· + _) h2)

section
variable (R : FVec Ideal S1024x1024 .bf16) (i : Fin 1024) (e : Fin 512)

/-- The first product at an index. -/
theorem pay17_apply (X : Vec Ideal S1024x512 .bf16) :
    k0_pay17 (F := Ideal) R X (ix2 i e) = ∑ k : Fin 1024, R (ix2 i k) * X (ix2 k e) := by
  unfold k0_pay17
  refine (Ideal.matmul_plain_apply (M := 1024) (K := 1024) (N := 512) none R X _ i e).trans ?_
  rw [constant_apply, Ideal.ofBits_zero_f32, zero_add]

/-- The second product at an index, added to what was there. -/
theorem pay19_apply (A : FVec Ideal S1024x512 .f32) (X : Vec Ideal S512x512 .bf16) :
    k0_pay19 (F := Ideal) A (k0_pay18 R) X (ix2 i e) = A (ix2 i e) + ∑ k : Fin 512, R (ix2 i ⟨k.val, by omega⟩) * X (ix2 k e) := by
  unfold k0_pay19
  refine (addf_apply _ _ _).trans (congrArg (A (ix2 i e) + ·) ?_)
  refine (Ideal.matmul_plain_apply (M := 1024) (K := 512) (N := 512) none (k0_pay18 R) X _ i e).trans ?_
  rw [constant_apply, Ideal.ofBits_zero_f32, zero_add]
  refine sum_congr rfl fun k _ => congrArg (· * _) ?_
  unfold k0_pay18
  exact slice2_axis1_apply 0 R slices_S1024x1024_o0_0_S1024x512 i k ⟨k.val, by omega⟩ (Nat.zero_add _).symm

/-- The third. -/
theorem pay20_apply (A : FVec Ideal S1024x512 .f32) (X : Vec Ideal S256x512 .bf16) :
    k0_pay20 (F := Ideal) R A X (ix2 i e) = A (ix2 i e) + ∑ k : Fin 256, R (ix2 i ⟨512 + k.val, by omega⟩) * X (ix2 k e) := by
  unfold k0_pay20
  refine (addf_apply _ _ _).trans (congrArg (A (ix2 i e) + ·) ?_)
  refine (Ideal.matmul_plain_apply (M := 1024) (K := 256) (N := 512) none _ X _ i e).trans ?_
  rw [constant_apply, Ideal.ofBits_zero_f32, zero_add]
  exact sum_congr rfl fun k _ => congrArg (· * _)
    (slice2_axis1_apply 512 R slices_S1024x1024_o0_512_S1024x256 i k ⟨512 + k.val, by omega⟩ rfl)

/-- The fourth, and the conversion of the sum. -/
theorem pay21_apply (A : FVec Ideal S1024x512 .f32) (X : Vec Ideal S256x512 .bf16) :
    k0_pay21 (F := Ideal) R A X (ix2 i e) = A (ix2 i e) + ∑ k : Fin 256, R (ix2 i ⟨768 + k.val, by omega⟩) * X (ix2 k e) := by
  unfold k0_pay21
  refine (truncf_apply (ψ := .bf16) _ bitsLt_bf16_f32 _).trans ?_
  refine (addf_apply _ _ _).trans (congrArg (A (ix2 i e) + ·) ?_)
  refine (Ideal.matmul_plain_apply (M := 1024) (K := 256) (N := 512) none _ X _ i e).trans ?_
  rw [constant_apply, Ideal.ofBits_zero_f32, zero_add]
  exact sum_congr rfl fun k _ => congrArg (· * _)
    (slice2_axis1_apply 768 R slices_S1024x1024_o0_768_S1024x256 i k ⟨768 + k.val, by omega⟩ rfl)

end

variable (m : (ℓ : Loc nD τ sig) → Buf (Elt Ideal) ℓ) (ρ : Dev nD → PrngReg) (c : Dev nD)

/-- What a device sends is its block. -/
theorem sent_eq : sent m ρ c = xstg m ρ c := by
  unfold sent k0_pay1
  exact (shapeCast_self (s := S1024x512) _ _).trans (shapeCast_self (s := S1024x512) _ _)

/-- The second mesh coordinate as the kernel computes it. -/
theorem yw_eq : yw c = if c.val % 2 = 0 then 0#32 else 1#32 := by revert c; decide
/-- The first. -/
theorem xw_eq : xw c = if c.val < 2 then 0#32 else 1#32 := by revert c; decide
/-- The device across the x axis has the same second coordinate. -/
theorem xp_half : (xp c).val % 2 = c.val % 2 := by revert c; decide
/-- The device across both axes has the other second coordinate. -/
theorem xp_yp_mod : (xp (yp c)).val % 2 = 1 - c.val % 2 := by revert c; decide

/-- Where row `k` of the rows that came lies in the other block. -/
theorem came (W : Fin 1024 → Fin 512 → EReal) (hW : ∀ k e, xstg m ρ (xp c) (ix2 k e) = W k e) (hW' : ∀ k e, xstg m ρ (xp (yp c)) (ix2 k e) = W k e)
    (e : Fin 512) :
    (∀ k : Fin 512, XB m ρ c (ix2 k e) = W (turn (yw c) ⟨k.val, by omega⟩) e)
      ∧ (∀ k : Fin 256, ytop m ρ c (ix2 k e) = W (turn (yw c) ⟨512 + k.val, by omega⟩) e)
      ∧ (∀ k : Fin 256, ybot m ρ c (ix2 k e) = W (turn (yw c) ⟨768 + k.val, by omega⟩) e) := by
  have hy := yw_eq c
  have h2 := xp_half c
  have h3 := xp_yp_mod c
  have ht : ∀ k : Fin 1024, (turn (yw c) k).val = (k.val + 512 * (c.val % 2)) % 1024 := by
    intro k
    rw [hy]
    unfold turn
    have := k.isLt
    rcases Nat.mod_two_eq_zero_or_one c.val with h | h
    · rw [h, if_pos rfl, if_pos rfl]; omega
    · rw [h, if_neg (by decide : ¬ (1 : ℕ) = 0), if_neg (by decide : ¬ (1#32 : BitVec 32) = 0#32)]
  have hX : ∀ (d : Dev nD) (k : Fin 512) (q : Fin 1024), q.val = 512 * (d.val % 2) + k.val → (∀ k e, xstg m ρ d (ix2 k e) = W k e) →
      sent m ρ d (srcRow d (ix2 k e)) = W q e := by
    intro d k q hq hd
    rw [← hd, sent_eq]
    congr 1
    funext a
    match a with
    | ⟨0, _⟩ => exact Fin.ext hq.symm
    | ⟨1, _⟩ => rfl
  refine ⟨fun k => hX (xp c) k _ ?_ hW, fun k => ?_, fun k => ?_⟩
  · rw [ht]
    show (k.val + 512 * (c.val % 2)) % 1024 = _
    omega
  · refine Eq.trans ?_ (hX (xp (yp c)) ⟨k.val, by omega⟩ _ ?_ hW')
    · show sent m ρ (xp (yp c)) (srcRow (xp (yp c)) _) = _
      congr 2
      funext a
      match a with
      | ⟨0, _⟩ => exact Fin.ext (by show 0 + 1 * k.val = k.val; omega)
      | ⟨1, _⟩ => exact Fin.ext (by show 0 + 1 * e.val = e.val; omega)
    · rw [ht]
      show (512 + k.val + 512 * (c.val % 2)) % 1024 = 512 * ((xp (yp c)).val % 2) + k.val
      omega
  · refine Eq.trans ?_ (hX (xp (yp c)) ⟨256 + k.val, by omega⟩ _ ?_ hW')
    · show sent m ρ (xp (yp c)) (srcRow (xp (yp c)) _) = _
      congr 2
      funext a
      match a with
      | ⟨0, _⟩ => exact Fin.ext (by show 256 + 1 * k.val = 256 + k.val; omega)
      | ⟨1, _⟩ => exact Fin.ext (by show 0 + 1 * e.val = e.val; omega)
    · rw [ht]
      show (768 + k.val + 512 * (c.val % 2)) % 1024 = 512 * ((xp (yp c)).val % 2) + (256 + k.val)
      omega

/-- THE KERNEL'S RESULT, as two sums over rows: its own block's, and the other block's, each row taken where it belongs to the
    rank and its place is the result's row. -/
theorem outAt_apply (V W : Fin 1024 → Fin 512 → EReal) (D P : Fin 1024 → BitVec 32)
    (hV : ∀ k e, xstg m ρ c (ix2 k e) = V k e) (hW : ∀ k e, xstg m ρ (xp c) (ix2 k e) = W k e)
    (hW' : ∀ k e, xstg m ρ (xp (yp c)) (ix2 k e) = W k e)
    (hD : ∀ k, dstg m ρ c (ix2 (0 : Fin 1) k) = D k) (hP : ∀ k, dstg m ρ (xp c) (ix2 (0 : Fin 1) k) = P k) (i : Fin 1024) (e : Fin 512) :
    outAt m ρ c (ix2 i e)
      = (∑ k, if D k = xw c ∧ offOwn P (xw c) + before D (xw c) k = i.val then V k e else 0)
        + ∑ k, if P k = xw c ∧ offPeer D (xw c) + before P (xw c) k = i.val then W k e else 0 := by
  have hD' : lanes (dstg m ρ c) = D := funext hD
  have hP' : lanes (dstg m ρ (xp c)) = P := funext hP
  obtain ⟨c1, c2, c3⟩ := came m ρ c W hW hW' e
  have hot_mul : ∀ (D : Fin 1024 → BitVec 32) (r : BitVec 32) (o : ℕ) (k : Fin 1024) (x : EReal),
      hot D r o i k * x = if D k = r ∧ o + before D r k = i.val then x else 0 := by
    intro D r o k x
    unfold hot
    split
    · rw [one_mul]
    · rw [zero_mul]
  unfold outAt
  refine (pay21_apply _ i e _ _).trans ?_
  rw [pay20_apply, pay19_apply, pay17_apply, add_assoc, add_assoc, ← add_assoc (∑ k : Fin 512, _)]
  congr 1
  · refine sum_congr rfl fun k _ => ?_
    rw [sent_eq, hV, ← hot_mul, ← hD', ← hP']
    exact congrArg (· * _) (pay14_hot (xw c) (dstg m ρ c) (dstg m ρ (xp c)) i k)
  · rw [← Equiv.sum_comp (⟨turn (yw c), turn (yw c), turn_turn _, turn_turn _⟩ : Fin 1024 ≃ Fin 1024), sum_cut]
    have key : ∀ k : Fin 1024, _ = _ := fun k => pay16_hot (xw c) (yw c) (dstg m ρ c) (dstg m ρ (xp c)) i k
    congr 1
    · congr 1
      · refine sum_congr rfl fun k _ => ?_
        rw [c1, ← hot_mul, ← hD', ← hP']
        exact congrArg (· * _) (key _)
      · refine sum_congr rfl fun k _ => ?_
        rw [c2, ← hot_mul, ← hD', ← hP']
        exact congrArg (· * _) (key _)
    · refine sum_congr rfl fun k _ => ?_
      rw [c3, ← hot_mul, ← hD', ← hP']
      exact congrArg (· * _) (key _)

end Cert.Exchange
-- ==== Proof.Halves.lean ====
/-
# The picked sum over two blocks

A table of `a + b` words is a block of `a` and a block of `b`. In it a number of the second block has before it every number
of the first block that holds its word. So the picked sum over the whole table is the picked sum over the first block, and a
sum over the second block at the count less the first block's total.
-/
module

public import proofs.«01_k».proof.Proof.Order
public import Mathlib.Algebra.BigOperators.Fin

@[expose] public section

noncomputable section

namespace Cert.Exchange

open Finset

variable {a b : ℕ} (D : Fin (a + b) → BitVec 32) (r : BitVec 32)

/-- A count over both blocks. -/
theorem card_cut (p : Fin (a + b) → Prop) [DecidablePred p] :
    (univ.filter p).card = (univ.filter fun k => p (Fin.castAdd b k)).card + (univ.filter fun k => p (Fin.natAdd a k)).card := by
  simp only [card_filter]
  exact Fin.sum_univ_add _

/-- In the first block the numbers before are the block's own. -/
theorem before_first (k : Fin a) : before D r (Fin.castAdd b k) = before (fun j => D (Fin.castAdd b j)) r k := by
  unfold before
  rw [card_cut]
  have h : (univ.filter fun j : Fin b => Fin.natAdd a j < Fin.castAdd b k ∧ D (Fin.natAdd a j) = r) = ∅ := by
    refine filter_false_of_mem fun j _ hj => ?_
    have h1 : a + j.val < k.val := hj.1
    omega
  rw [h, card_empty, Nat.add_zero]
  rfl

/-- In the second block there are the first block's besides. -/
theorem before_second (k : Fin b) :
    before D r (Fin.natAdd a k) = total (fun j => D (Fin.castAdd b j)) r + before (fun j => D (Fin.natAdd a j)) r k := by
  unfold before total
  rw [card_cut]
  refine congrArg₂ (· + ·) (congrArg card (filter_congr fun j _ => ?_)) (congrArg card (filter_congr fun j _ => ?_))
  · refine and_iff_right ?_
    show j.val < a + k.val
    omega
  · refine and_congr_left' ?_
    show a + j.val < a + k.val ↔ j.val < k.val
    omega

/-- The picked sum, cut. -/
theorem picked_cut {E : Type} [AddCommMonoid E] (X : Fin (a + b) → E) (i : ℕ) :
    picked D X r i
      = (∑ k, if D (Fin.castAdd b k) = r ∧ before (fun j => D (Fin.castAdd b j)) r k = i then X (Fin.castAdd b k) else 0)
        + ∑ k, if D (Fin.natAdd a k) = r ∧ total (fun j => D (Fin.castAdd b j)) r + before (fun j => D (Fin.natAdd a j)) r k = i
            then X (Fin.natAdd a k) else 0 := by
  unfold picked
  rw [Fin.sum_univ_add]
  simp only [before_first, before_second]

/-- The picked sum over two blocks of 1024. -/
theorem picked_blocks {E : Type} [AddCommMonoid E] (W : Fin 2048 → BitVec 32) (X : Fin 2048 → E)
    (D P : Fin 1024 → BitVec 32) (V U : Fin 1024 → E) (hD : ∀ k, W ⟨k.val, by omega⟩ = D k) (hP : ∀ k, W ⟨1024 + k.val, by omega⟩ = P k)
    (hV : ∀ k, X ⟨k.val, by omega⟩ = V k) (hU : ∀ k, X ⟨1024 + k.val, by omega⟩ = U k) (i : ℕ) :
    picked W X r i = (∑ k, if D k = r ∧ before D r k = i then V k else 0)
      + ∑ k, if P k = r ∧ total D r + before P r k = i then U k else 0 := by
  obtain rfl : (fun k : Fin 1024 => W ⟨k.val, by omega⟩) = D := funext hD
  obtain rfl : (fun k : Fin 1024 => W ⟨1024 + k.val, by omega⟩) = P := funext hP
  obtain rfl : (fun k : Fin 1024 => X ⟨k.val, by omega⟩) = V := funext hV
  obtain rfl : (fun k : Fin 1024 => X ⟨1024 + k.val, by omega⟩) = U := funext hU
  exact picked_cut (a := 1024) (b := 1024) W r X i

end Cert.Exchange
-- ==== Proof.RefValue.lean ====
/-
# The reference, read at an index

The reference sorts the numbers 0 .. 2047 stably by their destinations, and for each rank takes 1024 places of the sorted
order from the rank's first one on, with zero for the places past the rank's count. Its first place is the count of the smaller
destinations. So entry `i` of rank `r` is the row whose number has the destination `r` and `i` such numbers before it: the
`picked` sum.
-/
module

public import proofs.«01_k».proof.Proof.Order
public import proofs.«01_k».proof.Proof.Gen.ReferenceIdeal.Run
public import Idealize.ShloMosaic.Lib.Routing.Main
public import Idealize.ShloMosaic.Lib.Routing.OpsSet
public import Idealize.ShloMosaic.Lib.Routing.OpsSearch
public import Idealize.ShloMosaic.Lib.Routing.OpsPair
public import Idealize.ShloMosaic.Lib.WordArith
public import Idealize.ShloMosaic.Lib.IdealHost
public import Idealize.ShloMosaic.Lib.Pipeline.Value

@[expose] public section

noncomputable section

namespace Cert.Exchange.Ref

open Idealize.ShloMosaic Idealize.ShloMosaic.ValueIdx Idealize.ShloMosaic.Routing Finset Cert.ReferenceIdeal Cert.ReferenceIdeal.Gen

/-- The destinations by number. -/
abbrev words (d : IVec S2048 32) (j : Fin 2048) : BitVec 32 := d (ix1 j)

/-- The reference's count of the destinations where the mask `t` holds. -/
def countOf (t : IVec S2048 1) : IVec S_ 32 :=
  Host.reduce IntOp.addi (extui 32 t natLt_1_32) (constantI S_ 32 0#32) reducesTo_S2048_S_d0 h_S_

/-- The sum of a list of values at 0 .. `n - 1` is the sum over that range. -/
theorem listSum (g : ℕ → ℕ) (n : ℕ) : ((List.range n).map g).sum = ∑ k ∈ range n, g k := rfl

/-- A count is the number of ones in the mask. -/
theorem countOf_apply (t : IVec S2048 1) (f : Fin 2048 → Prop) [DecidablePred f] (ht : ∀ j, t (ix1 j) = 1#1 ↔ f j) :
    countOf t ix0 = BitVec.ofNat 32 (univ.filter f).card := by
  let g : ℕ → ℕ := fun k => if h : k < 2048 then (if f ⟨k, h⟩ then 1 else 0) else 0
  refine (reduce_sum (N := 2048) (extui 32 t natLt_1_32) g (fun j => ?_) reducesTo_S2048_S_d0 h_S_).trans ?_
  · have hg : g j.val = if f j then 1 else 0 := dif_pos j.isLt
    show (t (ix1 j)).setWidth 32 = _
    rw [hg]
    by_cases h : f j
    · rw [if_pos h, (ht j).mpr h]
      rfl
    · rw [if_neg h, eq_zero_of_ne_one (fun h' => h ((ht j).mp h'))]
      rfl
  · refine congrArg (BitVec.ofNat 32) ((listSum g 2048).trans ?_)
    rw [card_filter, Finset.sum_range g]
    exact sum_congr rfl fun j _ => dif_pos j.isLt

/-- How the reference reads a table of numbers by position: a negative number counts from the end. -/
def wrapped (k : IVec S1024 32) : IVec S1024x1 32 :=
  broadcastInDim S1024x1 ![0] bcast_S1024_S1024x1_0
    (select (cmpi .slt k (broadcastInDim S1024 ![] bcast_S_S1024 (constantI S_ 32 0#32)))
      (addi k (broadcastInDim S1024 ![] bcast_S_S1024 (constantI S_ 32 2048#32))) k)

/-- A number that is not negative is read as it is. -/
theorem wrapped_apply (k : IVec S1024 32) (i : Fin 1024) (a : ℕ) (ha : a < 2048) (h : k (ix1 i) = BitVec.ofNat 32 a) :
    wrapped k (ix2 i (0 : Fin 1)) = BitVec.ofNat 32 a := by
  unfold wrapped
  refine (bcCol (n := 1024) _ _ i).trans ?_
  refine (wrap_of_lt (w := 32) (k (ix1 i)) _ ?_).trans h
  rw [h, BitVec.toNat_ofNat]
  omega

/-- The sorted order of the numbers. -/
def order (d : IVec S2048 32) : IVec S2048 32 :=
  (Host.sort2 S2048 0 comparator_i32_i32_d0 d (iotaInDim S2048 32 0)).2

/-- The index of a vector moved along its one axis. -/
theorem along_one {n : ℕ} (p k : Fin n) (h : 0 < 1) : (ix1 p : (⟨1, ![n]⟩ : Shape).Idx).along (⟨0, h⟩ : Fin 1) k = ix1 k := by
  funext a
  match a with
  | ⟨0, _⟩ => exact Function.update_self _ _ _

/-- The sorted order holds at a place the number that stands there. -/
theorem order_apply (d : IVec S2048 32) (p : Fin 2048) :
    order d (ix1 p) = BitVec.ofNat 32 (sortedFrom (firstOf (words d)) p).val := by
  have hj : ∀ k : Fin 2048, (ix1 p : S2048.Idx).along (⟨0, Nat.one_pos⟩ : Fin 1) k = ix1 k := fun k => along_one p k _
  unfold order Host.sort2
  rw [dif_pos (by decide : (0 : ℕ) < S2048.rank)]
  dsimp only
  refine (congrArg (iotaInDim S2048 32 0) (hj _)).trans ?_
  refine (iota1_ap (n := 2048) _).trans (congrArg (fun q : Fin 2048 => BitVec.ofNat 32 q.val) ?_)
  refine congrFun (congrArg sortedFrom (funext fun a => funext fun b => ?_)) p
  show (IntOp.cmpi .slt (d ((ix1 p : S2048.Idx).along (⟨0, Nat.one_pos⟩ : Fin 1) a)) (d ((ix1 p : S2048.Idx).along (⟨0, Nat.one_pos⟩ : Fin 1) b)) == 1#1) = _
  rw [hj, hj]

/-- The places rank `r` reads: from the count of the smaller destinations on, none past the last. -/
def places (d : IVec S2048 32) (r : BitVec 32) : IVec S1024 32 :=
  minsi (addi (broadcastInDim S1024 ![] bcast_S_S1024
      (countOf (cmpi .slt d (broadcastInDim S2048 ![] bcast_S_S2048 (constantI S_ 32 r))))) (iotaInDim S1024 32 0))
    (broadcastInDim S1024 ![] bcast_S_S1024 (constantI S_ 32 2047#32))

/-- The mask of the smaller destinations counts them. -/
theorem count_lower (d : IVec S2048 32) (r : BitVec 32) :
    countOf (cmpi .slt d (broadcastInDim S2048 ![] bcast_S_S2048 (constantI S_ 32 r))) ix0 = BitVec.ofNat 32 (lower (words d) r) := by
  refine countOf_apply _ _ fun j => ?_
  show IntOp.cmpi .slt (d (ix1 j)) r = 1#1 ↔ (d (ix1 j)).slt r = true
  unfold IntOp.cmpi
  cases h : (d (ix1 j)).slt r <;> simp [h]

/-- The mask of the equal destinations counts them. -/
theorem count_total (d : IVec S2048 32) (r : BitVec 32) :
    countOf (cmpi .eq d (broadcastInDim S2048 ![] bcast_S_S2048 (constantI S_ 32 r))) ix0 = BitVec.ofNat 32 (total (words d) r) := by
  refine countOf_apply _ _ fun j => ?_
  show IntOp.cmpi .eq (d (ix1 j)) r = 1#1 ↔ d (ix1 j) = r
  unfold IntOp.cmpi
  by_cases h : d (ix1 j) = r
  · simp [h]
  · rw [beq_eq_false_iff_ne.mpr h]
    exact iff_of_false (fun h' : BitVec.ofBool false = 1#1 => absurd h' (by decide)) h

/-- Within the table the place is the first one and the slot. -/
theorem places_apply (d : IVec S2048 32) (r : BitVec 32) (i : Fin 1024) (h : lower (words d) r + i.val < 2048) :
    places d r (ix1 i) = BitVec.ofNat 32 (lower (words d) r + i.val) := by
  have e : addi (broadcastInDim S1024 ![] bcast_S_S1024
      (countOf (cmpi .slt d (broadcastInDim S2048 ![] bcast_S_S2048 (constantI S_ 32 r))))) (iotaInDim S1024 32 0) (ix1 i)
      = BitVec.ofNat 32 (lower (words d) r + i.val) := by
    rw [addi_ap, bc0, count_lower, iota1_ap (n := 1024), BitVec.ofNat_add_ofNat]
  show IntOp.minsi (addi _ _ (ix1 i)) (2047#32) = _
  rw [e]
  apply BitVec.eq_of_toNat_eq
  rw [Idealize.ShloMosaic.WordArith.toNat_minsi_of_lt _ _ (by rw [BitVec.toNat_ofNat]; omega) (by decide), BitVec.toNat_ofNat]
  show min _ 2047 = _
  omega

/-- A mask of slots, spread over the columns. -/
theorem spread_apply (v : IVec S1024 1) (i : Fin 1024) (e : Fin 512) :
    broadcastInDim S1024x512 ![0, 1] bcast_S1024x1_S1024x512_0_1 (broadcastInDim S1024x1 ![0] bcast_S1024_S1024x1_0 v) (ix2 i e)
      = v (ix1 i) := bcRows (n := 1024) (m := 512) bcast_S1024_S1024x1_0 bcast_S1024x1_S1024x512_0_1 v i e

/-- The slots below a count. -/
theorem below_apply (q : IVec S_ 32) (t : ℕ) (ht : t < 2 ^ 31) (hq : q ix0 = BitVec.ofNat 32 t) (i : Fin 1024) :
    cmpi .slt (iotaInDim S1024 32 0) (broadcastInDim S1024 ![] bcast_S_S1024 q) (ix1 i) = BitVec.ofBool (decide (i.val < t)) := by
  have h1 : broadcastInDim S1024 ![] bcast_S_S1024 q (ix1 i) = BitVec.ofNat 32 t := (bc0 bcast_S_S1024 q (ix1 i)).trans hq
  have h2 : iotaInDim S1024 32 0 (ix1 i) = BitVec.ofNat 32 i.val := iota1_ap (n := 1024) i
  have hi : i.val < 2 ^ 31 := lt_trans i.isLt (by decide)
  refine (congrArg₂ (IntOp.cmpi .slt) h2 h1).trans ?_
  exact congrArg BitVec.ofBool (slt_ofNat32 hi ht)

/-- The slots below the rank's count are the ones it keeps. -/
theorem kept_apply (d : IVec S2048 32) (r : BitVec 32) (i : Fin 1024) :
    cmpi .slt (iotaInDim S1024 32 0) (broadcastInDim S1024 ![] bcast_S_S1024
        (countOf (cmpi .eq d (broadcastInDim S2048 ![] bcast_S_S2048 (constantI S_ 32 r))))) (ix1 i)
      = BitVec.ofBool (decide (i.val < total (words d) r)) := by
  have hT := lower_add_total (words d) r
  exact below_apply _ _ (lt_of_le_of_lt (le_trans (Nat.le_add_left _ _) hT) (by decide)) (count_total d r) i

variable {F : FTy → Type} [FloatOps F]

/-- The rows rank `r` gets. -/
def rank (x : FVec F S2048x512 .bf16) (d : IVec S2048 32) (r : BitVec 32) : FVec F S1024x512 .bf16 :=
  select (broadcastInDim S1024x512 ![0, 1] bcast_S1024x1_S1024x512_0_1 (broadcastInDim S1024x1 ![0] bcast_S1024_S1024x1_0
      (cmpi .slt (iotaInDim S1024 32 0) (broadcastInDim S1024 ![] bcast_S_S1024
        (countOf (cmpi .eq d (broadcastInDim S2048 ![] bcast_S_S2048 (constantI S_ 32 r))))))))
    (Host.gather gather_S2048x512_S1024x1_S1024x512_1_0_n_n_0_1_1512 x
      (wrapped (Host.gather gather_S2048_S1024x1_S1024_n_0_n_n_0_1_1 (order d) (wrapped (places d r)))))
    (broadcastInDim S1024x512 ![] bcast_S_S1024x512 (constant S_ .bf16 0x0000#16))

/-- Entry `(i, e)` of rank `r` is the picked sum over the 2048 rows. -/
theorem rank_apply (x : FVec Ideal S2048x512 .bf16) (d : IVec S2048 32) (r : BitVec 32) (i : Fin 1024) (e : Fin 512) :
    rank x d r (ix2 i e) = picked (words d) (fun j => x (ix2 j e)) r i.val := by
  have hT := lower_add_total (words d) r
  unfold rank
  rw [select_apply, spread_apply, kept_apply]
  by_cases h : i.val < total (words d) r
  · rw [decide_eq_true h]
    show Host.gather _ x _ (ix2 i e) = _
    have hp : lower (words d) r + i.val < 2048 := by omega
    rw [picked_lt (words d) _ r i.val h ⟨_, hp⟩ rfl]
    refine gather_row (nb := 2048) (B := 512) (n := 1024) _ rfl rfl rfl rfl rfl x _ i e _ ?_ (by decide)
    refine wrapped_apply _ i _ (Fin.isLt _) ?_
    refine (gather_take1 (N := 2048) (n := 1024) _ rfl rfl rfl rfl (order d) _ i ⟨_, hp⟩ ?_ (by decide)).trans (order_apply d _)
    exact wrapped_apply _ i _ hp (places_apply d r i hp)
  · rw [decide_eq_false h, picked_ge _ _ _ _ (not_lt.mp h)]
    show broadcastInDim S1024x512 ![] bcast_S_S1024x512 (constant (F := Ideal) S_ .bf16 0x0000#16) (ix2 i e) = 0
    rw [bc0]
    exact Ideal.ofBits_zero_bf16

variable (m : (ℓ : Loc nD τ sig) → Buf (Elt Ideal) ℓ)

/-- The reference's rows. -/
abbrev rows : FVec Ideal S2048x512 .bf16 := m (((0 : Dev nD).tc : Thread nD τ).loc main_arg0)

/-- A table of two blocks of destinations, as one vector. -/
def flat (d : IVec S2x1024 32) : IVec S2048 32 := shapeCast _ d shapeCasts_S2x1024_S2048

/-- A destination by its number is its block's. -/
theorem flat_apply (d : IVec S2x1024 32) (a : Fin 2) (k : Fin 1024) (p : Fin 2048) (hp : p.val = a.val * 1024 + k.val) :
    words (flat d) p = d (ix2 a k) :=
  cast21 (a := 2) (b := 1024) (n := 2048) d shapeCasts_S2x1024_S2048 a k p hp

/-- The reference's destinations, as one vector. -/
abbrev dests : IVec S2048 32 := flat (m (((0 : Dev nD).tc : Thread nD τ).loc main_arg1) : IVec S2x1024 32)

/-- The two ranks, one above the other, are the reference's result. -/
theorem result_eq : Value.res_main_v65 (F := Ideal) m 0
    = concatenate S2048x512 0 [⟨S1024x512, rank (rows m) (dests m) 0#32⟩, ⟨S1024x512, rank (rows m) (dests m) 1#32⟩]
        concatenates_S1024x512_S1024x512_S2048x512_d0 := by
  unfold Value.res_main_v65
  rfl

/-- The result's upper half. -/
theorem result_upper (i : Fin 1024) (e : Fin 512) :
    Value.res_main_v65 (F := Ideal) m 0 (ix2 (⟨i.val, by omega⟩ : Fin 2048) e)
      = picked (words (dests m)) (fun j => rows m (ix2 j e)) 0#32 i.val := by
  rw [result_eq]
  refine (concatenate_pair_apply_left (s₁ := S1024x512) (s₂ := S1024x512) (0 : Fin S2048x512.rank) _ _ _
    (ix2 (⟨i.val, by omega⟩ : Fin 2048) e) rfl (ix2 i e : S1024x512.Idx) fun b => ?_).trans (rank_apply _ _ _ i e)
  match b with
  | ⟨0, _⟩ => rfl
  | ⟨1, _⟩ => rfl

/-- The result's lower half. -/
theorem result_lower (i : Fin 1024) (e : Fin 512) :
    Value.res_main_v65 (F := Ideal) m 0 (ix2 (⟨1024 + i.val, by omega⟩ : Fin 2048) e)
      = picked (words (dests m)) (fun j => rows m (ix2 j e)) 1#32 i.val := by
  rw [result_eq]
  refine (concatenate_pair_apply_right (s₁ := S1024x512) (s₂ := S1024x512) (0 : Fin S2048x512.rank) _ _ _
    (ix2 (⟨1024 + i.val, by omega⟩ : Fin 2048) e) rfl rfl (ix2 i e : S1024x512.Idx) (fun b hb => ?_) ?_).trans (rank_apply _ _ _ i e)
  · match b with
    | ⟨0, _⟩ => exact absurd rfl hb
    | ⟨1, _⟩ => rfl
  · exact Nat.add_comm _ _

end Cert.Exchange.Ref
-- ==== Proof.Value.lean ====
/-
# The kernel's result is its block of the reference's

The devices of a mesh row `x` hold block `x` of the rows and of the destinations, and their result is rank `x` of the reference's
result. Device `c`'s result is a sum over its own block and one over the other block, at counts that start after the other
block's rows when the own block is the second. The reference's rank is the picked sum over both blocks: the same two sums.
-/
module

public import proofs.«01_k».proof.Proof.Run
public import proofs.«01_k».proof.Proof.Product
public import proofs.«01_k».proof.Proof.Halves
public import proofs.«01_k».proof.Proof.RefValue
public import proofs.«01_k».proof.Defs
public import proofs.«01_k».proof.Proof.Gen.KernelIdeal.Points

@[expose] public section

noncomputable section

namespace Cert.Exchange

open Idealize.ShloMosaic Idealize.ShloMosaic.TcCoe Idealize.SL.Sem Finset Idealize.ShloMosaic.ValueIdx Cert.KernelIdeal Cert.KernelIdeal.Gen

section
variable {F : FTy → Type} [FloatOps F] (m : (ℓ : Loc nD τ sig) → Buf (Elt F) ℓ) (ρ : Dev nD → PrngReg) (c : Dev nD)

/-- The rows a device stages are its argument. -/
theorem xstg_eq : xstg m ρ c = m ((c : Thread nD τ).loc main_arg0) :=
  Memref.read_access_unit_zero (Elt F) main_arg0 (funext fun a => by fin_cases a <;> decide) (fun a => by fin_cases a <;> decide) _

/-- The destinations a device stages are its argument. -/
theorem dstg_eq : dstg m ρ c = m ((c : Thread nD τ).loc main_arg1) :=
  Memref.read_access_unit_zero (Elt F) main_arg1 (funext fun a => by fin_cases a <;> decide) (fun a => by fin_cases a <;> decide) _

/-- The result array ends holding what the body computes. -/
theorem final_out : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [if_pos (flush0_2 (0 : Fin 1))]
    exact View.read_write_univ _ _
  refine Eq.trans ?_ h
  exact (Memref.read_access_unit_zero (Elt F) main_v1 (funext fun a => by fin_cases a <;> decide) (fun a => by fin_cases a <;> decide) _).symm
end

variable (m : (ℓ : Loc nD τ sig) → Buf (Elt Ideal) ℓ) (ρ : Dev nD → PrngReg)

/-- Number `k` of device `c`'s block, in the whole table. -/
def whole (c : Dev nD) (k : Fin 1024) : Fin 2048 :=
  ⟨c.val / 2 * 1024 + k.val, by have : c.val < 4 := c.isLt; omega⟩

/-- Every device holds the block of the whole rows `X` and destinations `W` that its mesh row names. -/
def Dealt (X : Fin 2048 → Fin 512 → EReal) (W : Fin 2048 → BitVec 32) : Prop := ∀ c : Dev nD,
  (∀ (k : Fin 1024) (e : Fin 512), xstg m ρ c (ix2 k e) = X (whole c k) e)
  ∧ ∀ k : Fin 1024, dstg m ρ c (ix2 (0 : Fin 1) k) = W (whole c k)

/-- The other device of the x axis holds the other block: device `c` of the first mesh row. -/
theorem whole_first (c : Dev nD) (h : c.val < 2) (k : Fin 1024) :
    whole c k = ⟨k.val, by omega⟩ ∧ whole (xp c) k = ⟨1024 + k.val, by omega⟩ ∧ whole (xp (yp c)) k = ⟨1024 + k.val, by omega⟩ := by
  unfold whole xp yp
  refine ⟨Fin.ext ?_, Fin.ext ?_, Fin.ext ?_⟩ <;> dsimp only <;> omega

/-- And of the second mesh row. -/
theorem whole_second (c : Dev nD) (h : ¬ c.val < 2) (k : Fin 1024) :
    whole c k = ⟨1024 + k.val, by omega⟩ ∧ whole (xp c) k = ⟨k.val, by omega⟩ ∧ whole (xp (yp c)) k = ⟨k.val, by omega⟩ := by
  have : c.val < 4 := c.isLt
  unfold whole xp yp
  refine ⟨Fin.ext ?_, Fin.ext ?_, Fin.ext ?_⟩ <;> dsimp only <;> omega

/-- Device `c`'s result at `(i, e)` is the picked sum over the whole rows, at the rank of its mesh row. -/
theorem out_eq {X : Fin 2048 → Fin 512 → EReal} {W : Fin 2048 → BitVec 32} (h : Dealt m ρ X W) (c : Dev nD) (i : Fin 1024) (e : Fin 512) :
    outAt m ρ c (ix2 i e) = picked W (fun j => X j e) (xw c) i.val := by
  rw [outAt_apply m ρ c (fun k e => X (whole c k) e) (fun k e => X (whole (xp c) k) e) (fun k => W (whole c k)) (fun k => W (whole (xp c) k))
    (h c).1 (h (xp c)).1 (fun k e => ?_) (h c).2 (h (xp c)).2 i e]
  · by_cases hc : c.val < 2
    · rw [xw_eq, if_pos hc]
      rw [picked_blocks 0#32 W (fun j => X j e) (fun k => W (whole c k)) (fun k => W (whole (xp c) k)) (fun k => X (whole c k) e)
        (fun k => X (whole (xp c) k) e) (fun k => by rw [(whole_first c hc k).1]) (fun k => by rw [(whole_first c hc k).2.1])
        (fun k => by rw [(whole_first c hc k).1]) (fun k => by rw [(whole_first c hc k).2.1]) i.val]
      unfold offOwn offPeer
      simp only [if_true, Nat.zero_add]
    · rw [xw_eq, if_neg hc]
      rw [picked_blocks 1#32 W (fun j => X j e) (fun k => W (whole (xp c) k)) (fun k => W (whole c k)) (fun k => X (whole (xp c) k) e)
        (fun k => X (whole c k) e) (fun k => by rw [(whole_second c hc k).2.1]) (fun k => by rw [(whole_second c hc k).1])
        (fun k => by rw [(whole_second c hc k).2.1]) (fun k => by rw [(whole_second c hc k).1]) i.val]
      unfold offOwn offPeer
      rw [add_comm]
      simp only [show ¬ (1#32 : BitVec 32) = 0#32 from by decide, if_false, Nat.zero_add]
  · rw [(h (xp (yp c))).1 k e]
    by_cases hc : c.val < 2
    · rw [(whole_first c hc k).2.2, (whole_first c hc k).2.1]
    · rw [(whole_second c hc k).2.2, (whole_second c hc k).2.1]

/-- A device's block of an array of rows. -/
theorem tile_rows {α : Type} (c : Dev nD) (v : (⟨2, ![2048, 512]⟩ : Shape).Idx → α) (k : Fin 1024) (e : Fin 512) :
    (Layout.blockN ⟨2, ![1024, 512]⟩ ⟨2, ![2048, 512]⟩ (Layout.meshBlock [2, 2] ![[0], []] c) v) (ix2 k e) = v (ix2 (whole c k) e) := by
  have hc : c.val < 4 := c.isLt
  refine congrArg v (funext fun a => Fin.ext ?_)
  match a with
  | ⟨0, _⟩ =>
    show (c.val / 2 % 2 * 1 + 0) * 1024 + k.val = c.val / 2 * 1024 + k.val
    omega
  | ⟨1, _⟩ =>
    show 0 * 512 + e.val = e.val
    omega

/-- A device's block of the destinations. -/
theorem tile_dests {α : Type} (c : Dev nD) (v : (⟨2, ![2, 1024]⟩ : Shape).Idx → α) (k : Fin 1024) :
    (Layout.blockN ⟨2, ![1, 1024]⟩ ⟨2, ![2, 1024]⟩ (Layout.meshBlock [2, 2] ![[0], []] c) v) (ix2 (0 : Fin 1) k)
      = v (ix2 (⟨c.val / 2, by have : c.val < 4 := c.isLt; omega⟩ : Fin 2) k) := by
  have hc : c.val < 4 := c.isLt
  refine congrArg v (funext fun a => Fin.ext ?_)
  match a with
  | ⟨0, _⟩ =>
    show (c.val / 2 % 2 * 1 + 0) * 1 + 0 = c.val / 2
    omega
  | ⟨1, _⟩ =>
    show 0 * 1024 + k.val = k.val
    omega

/-- Where the arguments are blocks of two whole arrays, the devices hold what `Dealt` says of those. -/
theorem dealt_of (x : FVec Ideal ⟨2, ![2048, 512]⟩ .bf16) (d : IVec ⟨2, ![2, 1024]⟩ 32) (W : Fin 2048 → BitVec 32)
    (hW : ∀ (a : Fin 2) (k : Fin 1024) (p : Fin 2048), p.val = a.val * 1024 + k.val → W p = d (ix2 a k))
    (h : ∀ c : Dev nD,
      m ((c.tc : Thread nD τ).loc main_arg0) = Layout.blockN ⟨2, ![1024, 512]⟩ ⟨2, ![2048, 512]⟩ (Layout.meshBlock [2, 2] ![[0], []] c) x
      ∧ m ((c.tc : Thread nD τ).loc main_arg1) = Layout.blockN ⟨2, ![1, 1024]⟩ ⟨2, ![2, 1024]⟩ (Layout.meshBlock [2, 2] ![[0], []] c) d) :
    Dealt m ρ (fun j e => x (ix2 j e)) W := by
  refine fun c => ⟨fun k e => ?_, fun k => ?_⟩
  · refine (congrFun ((xstg_eq m ρ c).trans (h c).1) (ix2 k e)).trans ?_
    exact tile_rows c x k e
  · refine (congrFun ((dstg_eq m ρ c).trans (h c).2) (ix2 (0 : Fin 1) k)).trans ((tile_dests c d k).trans ?_)
    have hc : c.val / 2 < 2 := by have : c.val < 4 := c.isLt; omega
    have hp : (whole c k).val = (⟨c.val / 2, hc⟩ : Fin 2).val * 1024 + k.val := rfl
    exact (hW ⟨c.val / 2, hc⟩ k (whole c k) hp).symm

/-- The run, its result array named and its arguments as they were. -/
theorem run_out : θ_run (defs (F := Ideal)) (onTc (τ := τ) (main (F := Ideal))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ hr c => ⟨(hr.1 c 2).trans (final_out m ρ c), (hr.1 c 0).trans ((dats m ρ 0 c).arrAt_in 0 rfl _),
    (hr.1 c 1).trans ((dats m ρ 0 c).arrAt_in 1 rfl _)⟩) (run_main (F := Ideal) m ρ)

section
variable (m' : (ℓ : Loc Cert.ReferenceIdeal.nD Cert.ReferenceIdeal.τ Cert.ReferenceIdeal.sig) → Buf (Elt Ideal) ℓ)

/-- The reference's result at device `c`'s block is the picked sum at the rank of its mesh row. -/
theorem reference_block (c : Dev nD) (i : Fin 1024) (e : Fin 512) :
    Cert.ReferenceIdeal.Value.res_main_v65 (F := Ideal) m' 0 (ix2 (whole c i) e)
      = picked (Ref.words (Ref.dests m')) (fun j => Ref.rows m' (ix2 j e)) (xw c) i.val := by
  by_cases hc : c.val < 2
  · rw [(whole_first c hc i).1, Ref.result_upper, xw_eq, if_pos hc]
  · rw [(whole_second c hc i).1, Ref.result_lower, xw_eq, if_neg hc]

/-- Device `c`'s result is its block of the reference's. -/
theorem out_block (h : Dealt m ρ (fun j e => Ref.rows m' (ix2 j e)) (Ref.words (Ref.dests m'))) (c : Dev nD) :
    outAt m ρ c = Layout.blockN ⟨2, ![1024, 512]⟩ ⟨2, ![2048, 512]⟩ (Layout.meshBlock [2, 2] ![[0], []] c)
      (Cert.ReferenceIdeal.Value.res_main_v65 (F := Ideal) m' 0) := by
  funext j
  rw [eq_ix2 j]
  exact (out_eq m ρ h c _ _).trans ((reference_block m' c _ _).symm.trans (tile_rows c _ _ _).symm)
end

/-- THE ALGEBRAIC CLAIM: on blocks of the reference's arguments every device's result ends as its block of the reference's
    result, every argument as it was. -/
theorem algebraic : Cert.algebraic_KernelIdeal_ReferenceIdeal := by
  intro m g m' g' _ h
  refine ⟨Cert.ReferenceIdeal.Value.res_main_v65 (F := Ideal) m' 0, ?_, ?_⟩
  · have hd := dealt_of m g (Ref.rows m') _ (Ref.words (Ref.dests m')) (Ref.flat_apply _) h
    exact (θ_run defs _ _).mono (fun r hr c => ⟨(hr c).1.trans (out_block m g m' hd c), (hr c).2⟩) (run_out m g)
  · exact (θ_run Cert.ReferenceIdeal.defs _ _).mono (fun r hr => hr 0) (Cert.ReferenceIdeal.Value.run m' g')

end Cert.Exchange
-- ==== Proof.Sorted.lean ====
/-
# The kernel's result against the stable order alone

Where 1024 rows are addressed to each of the two ranks there are no smaller destinations than 0, and the second rank's rows start at
place 1024 of the stable order. So the ranks' picked sums are the sorted rows themselves, and the kernel's result is its block of the rows
in the stable order of their destinations.
-/
module

public import proofs.«01_k».proof.Proof.Value
public import proofs.«01_k».proof.Proof.Gen.SortedIdeal.Run
public import proofs.«01_k».proof.Proof.Gen.On_balanced

@[expose] public section

noncomputable section

namespace Cert.Exchange

open Idealize.ShloMosaic Idealize.ShloMosaic.TcCoe Idealize.SL.Sem Finset Idealize.ShloMosaic.ValueIdx Idealize.ShloMosaic.Routing

/-- Each of the two ranks has 1024 rows addressed to it. -/
def Even (W : Fin 2048 → BitVec 32) : Prop := total W 0#32 = 1024 ∧ total W 1#32 = 1024

/-- The destinations below 1 are those below 0 and those equal to 0, at least. -/
theorem lower_step (W : Fin 2048 → BitVec 32) : lower W 0#32 + total W 0#32 ≤ lower W 1#32 := by
  unfold lower total
  rw [← card_union_of_disjoint]
  · refine card_le_card fun k hk => ?_
    rw [mem_union, mem_filter, mem_filter] at hk
    rw [mem_filter]
    refine ⟨mem_univ k, ?_⟩
    rcases hk with ⟨_, h⟩ | ⟨_, h⟩
    · simp only [BitVec.slt, decide_eq_true_eq] at h ⊢
      exact lt_trans h (by decide)
    · rw [h]
      decide
  · refine disjoint_filter.mpr fun k _ h h' => ?_
    rw [h'] at h
    exact absurd h (by decide)

/-- Where the ranks are even, rank 0 starts at place 0 and rank 1 at place 1024. -/
theorem lower_even {W : Fin 2048 → BitVec 32} (h : Even W) : lower W 0#32 = 0 ∧ lower W 1#32 = 1024 := by
  have h1 := lower_step W
  have h2 := lower_add_total W 1#32
  rw [h.1] at h1
  rw [h.2] at h2
  omega

/-- There the picked sum of device `c`'s rank is the row at the place of its slot. -/
theorem picked_even {W : Fin 2048 → BitVec 32} (h : Even W) (X : Fin 2048 → EReal) (c : Dev Cert.KernelIdeal.nD) (i : Fin 1024) :
    picked W X (xw c) i.val = X (sortedFrom (firstOf W) (whole c i)) := by
  have hl := lower_even h
  have hi := i.isLt
  by_cases hc : c.val < 2
  · rw [xw_eq, if_pos hc, (whole_first c hc i).1]
    exact picked_lt W X _ _ (hi.trans_eq h.1.symm) _ (by rw [hl.1, Nat.zero_add])
  · rw [xw_eq, if_neg hc, (whole_second c hc i).1]
    exact picked_lt W X _ _ (hi.trans_eq h.2.symm) _ (by rw [hl.2])

section
open Cert.SortedIdeal Cert.SortedIdeal.Gen

/-- The rows in the stable order of their destinations, as the program computes them. -/
def inOrder (x : FVec Ideal S2048x512 .bf16) (d : IVec S2048 32) : FVec Ideal S2048x512 .bf16 :=
  Host.gather gather_S2048x512_S2048x1_S2048x512_1_0_n_n_0_1_1512 x
    (broadcastInDim S2048x1 ![0] bcast_S2048_S2048x1_0
      (select (cmpi .slt (Ref.order d) (broadcastInDim S2048 ![] bcast_S_S2048 (constantI S_ 32 0#32)))
        (addi (Ref.order d) (broadcastInDim S2048 ![] bcast_S_S2048 (constantI S_ 32 2048#32))) (Ref.order d)))

/-- Row `p` of them is the row whose number stands at place `p`. -/
theorem inOrder_apply (x : FVec Ideal S2048x512 .bf16) (d : IVec S2048 32) (p : Fin 2048) (e : Fin 512) :
    inOrder x d (ix2 p e) = x (ix2 (sortedFrom (firstOf (Ref.words d)) p) e) := by
  have hlt := (sortedFrom (firstOf (Ref.words d)) p).isLt
  unfold inOrder
  refine gather_row (nb := 2048) (B := 512) (n := 2048) _ rfl rfl rfl rfl rfl x _ p e _ ?_ (by decide)
  refine (bcCol (n := 2048) _ _ p).trans ?_
  refine (wrap_of_lt (w := 32) (Ref.order d (ix1 p)) _ ?_).trans (Ref.order_apply d p)
  rw [Ref.order_apply, BitVec.toNat_ofNat]
  omega

/-- The program's run: its result is the rows in order. -/
theorem run_sorted (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v8)
          = inOrder (m' ((c.tc : Thread nD τ).loc main_arg0)) (Ref.flat (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  Value.run (F := Ideal) m' g'
end

/-- A conjunction of two bits that is set has both set. -/
theorem both_of_and {a b : BitVec 1} (h : a &&& b = 1#1) : a = 1#1 ∧ b = 1#1 := by
  revert a b
  decide

/-- An equality comparison that is set compares equal words. -/
theorem eq_of_cmpi {a b : BitVec 32} (h : IntOp.cmpi .eq a b = 1#1) : a = b := by
  by_contra hn
  have hf : BitVec.ofBool (a == b) = 1#1 := h
  rw [beq_eq_false_iff_ne.mpr hn] at hf
  exact absurd hf (by decide)

/-- Small counts with the same word as 1024 are 1024. -/
theorem word_inj {n : ℕ} (hn : n ≤ 2048) (h : BitVec.ofNat 32 n = 1024#32) : n = 1024 := by
  have e := congrArg BitVec.toNat h
  rw [BitVec.toNat_ofNat] at e
  have : (1024#32 : BitVec 32).toNat = 1024 := by decide
  omega

/-- Where the mask is set anywhere, the ranks are even. -/
theorem even_of_balanced (x : FVec Ideal Cert.On_balanced.S2048x512 .bf16) (d : IVec Cert.On_balanced.S2x1024 32) (j : Cert.On_balanced.S2048x512.Idx)
    (h : Cert.On_balanced.fn x d j = 1#1) : Even (Ref.words (Ref.flat d)) := by
  have hfn : Cert.On_balanced.fn x d
      = broadcastInDim Cert.On_balanced.S2048x512 ![] Cert.On_balanced.Gen.bcast_S_S2048x512
          (andi (cmpi .eq (Ref.countOf (cmpi .eq (Ref.flat d) (broadcastInDim Cert.ReferenceIdeal.S2048 ![] Cert.ReferenceIdeal.Gen.bcast_S_S2048
              (constantI Cert.ReferenceIdeal.S_ 32 0#32)))) (constantI Cert.ReferenceIdeal.S_ 32 1024#32))
            (cmpi .eq (Ref.countOf (cmpi .eq (Ref.flat d) (broadcastInDim Cert.ReferenceIdeal.S2048 ![] Cert.ReferenceIdeal.Gen.bcast_S_S2048
              (constantI Cert.ReferenceIdeal.S_ 32 1#32)))) (constantI Cert.ReferenceIdeal.S_ 32 1024#32))) := rfl
  rw [hfn, bc0] at h
  have h0 := lower_add_total (Ref.words (Ref.flat d)) 0#32
  have h1 := lower_add_total (Ref.words (Ref.flat d)) 1#32
  obtain ⟨ha, hb⟩ := both_of_and h
  have ca := (Ref.count_total (Ref.flat d) 0#32).symm.trans (eq_of_cmpi ha)
  have cb := (Ref.count_total (Ref.flat d) 1#32).symm.trans (eq_of_cmpi hb)
  exact ⟨word_inj (by omega) ca, word_inj (by omega) cb⟩

/-- THE ALGEBRAIC CLAIM against the stable order alone: on blocks of its arguments every device's result ends as its block of the rows in the
    stable order of their destinations, where 1024 rows are addressed to each rank. -/
theorem algebraic_sorted : Cert.algebraic_KernelIdeal_SortedIdeal_on_balanced := by
  intro m g m' g' _ h
  let x : FVec Ideal ⟨2, ![2048, 512]⟩ .bf16 :=
    m' (((0 : Dev Cert.SortedIdeal.nD).tc : Thread Cert.SortedIdeal.nD Cert.SortedIdeal.τ).loc Cert.SortedIdeal.main_arg0)
  let d : IVec ⟨2, ![2, 1024]⟩ 32 :=
    m' (((0 : Dev Cert.SortedIdeal.nD).tc : Thread Cert.SortedIdeal.nD Cert.SortedIdeal.τ).loc Cert.SortedIdeal.main_arg1)
  refine ⟨inOrder x (Ref.flat d), ?_, ?_⟩
  · have hd := dealt_of m g x d (Ref.words (Ref.flat d)) (Ref.flat_apply d) h
    refine (θ_run Cert.KernelIdeal.defs _ _).mono (fun r hr c => ⟨fun j hj => ?_, (hr c).2⟩) (run_out m g)
    refine (congrFun (hr c).1 j).trans ?_
    have he : Even (Ref.words (Ref.flat d)) := even_of_balanced x d _ hj
    rw [eq_ix2 j]
    refine (out_eq m g hd c _ _).trans ((picked_even he _ c _).trans ?_)
    exact ((tile_rows c (inOrder x (Ref.flat d)) _ _).trans (inOrder_apply x (Ref.flat d) _ _)).symm
  · exact (θ_run Cert.SortedIdeal.defs _ _).mono (fun r hr => ⟨fun j _ => congrFun (hr 0).1 j, (hr 0).2⟩) (run_sorted m' g')

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SortedIdeal
public import proofs.«01_k».proof.Proof.Gen.SortedIdeal.Run
public import proofs.«01_k».proof.Proof.Gen.On_balanced
public import proofs.«01_k».proof.Proof.Run
public import proofs.«01_k».proof.Proof.Same
public import proofs.«01_k».proof.Proof.Value
public import proofs.«01_k».proof.Proof.Sorted
public import Idealize.ShloMosaic.Adequacy
public import Idealize.ShloMosaic.Init

@[expose] public section

noncomputable section

namespace Cert.Proof

open Idealize.ShloMosaic Idealize.SL.Sem Cert.Kernel

/-- The kernel's run with its two input arrays read, at any float values. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1 c 0).trans ((Cert.Exchange.dats m ρ 0 c).arrAt_in 0 rfl _),
      (h.1 c 1).trans ((Cert.Exchange.dats m ρ 0 c).arrAt_in 1 rfl _)⟩, h.2⟩)
    (Cert.Exchange.run_main m ρ)

/-- `Cert.Kernel` is `Cert.KernelIdeal`'s text, so its frame is the same run at machine words. -/
theorem frame_kernel : Cert.quiescent_Kernel := by
  intro m ρ _
  rw [Cert.Exchange.defs_same (F := Bits)]
  exact frame_any (F := Bits) m ρ

/-- `Cert.KernelIdeal`'s frame: the run at the extended reals. -/
theorem frame_kernelIdeal : Cert.quiescent_KernelIdeal := fun m ρ _ => frame_any (F := Ideal) m ρ

/-- The reference's frame: its run, its arguments read; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The frame of the stable order's program, likewise. -/
theorem frame_sorted : Cert.quiescent_SortedIdeal := fun m ρ _ =>
  (θ_run Cert.SortedIdeal.defs _ _).mono
    (fun r h => ⟨fun c => (h c).2, sem_eq_zero_of_no_sems (by decide) r.2⟩)
    (Cert.SortedIdeal.Value.run (F := Ideal) m ρ)

/-- Every claim of the certificate. -/
theorem claim : Cert.Claim := ⟨Cert.Kernel.Gen.facts, Cert.KernelIdeal.Gen.facts, Cert.ReferenceIdeal.Gen.facts, Cert.SortedIdeal.Gen.facts,
  Cert.On_balanced.Gen.facts, frame_kernel, frame_kernelIdeal, frame_reference, frame_sorted, trivial, Cert.Exchange.algebraic,
  Cert.Exchange.algebraic_sorted⟩

end Cert.Proof

end
